-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![16, 512, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 1024]⟩ ⟨3, ![16, 512, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S2x512x1024 : Shape := ⟨3, ![2, 512, 1024]⟩
abbrev S512x1024 : Shape := ⟨2, ![512, 1024]⟩
abbrev S2 : Shape := ⟨1, ![2]⟩
abbrev S_ : Shape := ⟨0, ![]⟩
abbrev S1 : Shape := ⟨1, ![1]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x512x1024, .f32⟩
  | .local _ .vmem, ⟨6, _⟩ => ⟨S2x512x1024, .bf16⟩
  | .local _ .vmem, ⟨7, _⟩ => ⟨S2x512x1024, .bf16⟩
  | .local _ .vmem, ⟨8, _⟩ => ⟨S2x512x1024, .bf16⟩
  | .local _ .vmem, ⟨9, _⟩ => ⟨S2x512x1024, .bf16⟩
  | .local _ .vmem, ⟨10, _⟩ => ⟨S512x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 3 → Bool
  | ⟨0, _⟩ => true
  | ⟨1, _⟩ => true
  | ⟨2, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 3 22 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9 : BitVec 32 := 1#32
  let v13 : BitVec 32 := Scalar.muli v7 c1_i32_9
  let v14 : BitVec 32 := Scalar.addi c0_i32_10 v13
  v14.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.remsi v2 c2_i32
  let c1_i32_5 : BitVec 32 := 1#32
  let v9 : BitVec 1 := Scalar.cmpi .eq v8 c1_i32_5
  let v21 : BitVec 32 := Scalar.extui v9
  let c0_i32_16 : BitVec 32 := 0#32
  let v22 : BitVec 1 := Scalar.cmpi .ne v21 c0_i32_16
  v22

def k0_dev3 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_86 : BitVec 32 := 1#32
  let v179 : BitVec 32 := Scalar.muli v5 c1_i32_86
  let v180 : BitVec 32 := Scalar.addi c0_i32_87 v179
  v180.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.remsi v2 c2_i32
  let c1_i32_5 : BitVec 32 := 1#32
  let v9 : BitVec 1 := Scalar.cmpi .eq v8 c1_i32_5
  let true_17 : BitVec 1 := 1#1
  let v23 : BitVec 1 := Scalar.xori v9 true_17
  let v24 : BitVec 32 := Scalar.extui v23
  let c0_i32_18 : BitVec 32 := 0#32
  let v25 : BitVec 1 := Scalar.cmpi .ne v24 c0_i32_18
  v25

def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_86 : BitVec 32 := 1#32
  let v179 : BitVec 32 := Scalar.muli v7 c1_i32_86
  let v180 : BitVec 32 := Scalar.addi c0_i32_87 v179
  v180.toNat
@[reducible] def k0_t1_loop : Scf.Loop 32 :=
  let c0_i32_19 : BitVec 32 := 0#32
  let c15_i32 : BitVec 32 := 15#32
  let v26 : BitVec 32 := Scalar.addi c0_i32_19 c15_i32
  let c1_i32_20 : BitVec 32 := 1#32
  ⟨c0_i32_19, v26, c1_i32_20⟩
def k0_cond3 (d0 : Dev nD) (k0_t1 : Fin k0_t1_loop.trips) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_19 : BitVec 32 := 0#32
  let c1_i32_20 : BitVec 32 := 1#32
  let arg21 : BitVec 32 := Scf.iv c0_i32_19 c1_i32_20 k0_t1
  let v175 : BitVec 32 := Scalar.addi v2 arg21
  let c2_i32_79 : BitVec 32 := 2#32
  let v176 : BitVec 32 := Scalar.remsi v175 c2_i32_79
  let c0_i32_80 : BitVec 32 := 0#32
  let v177 : BitVec 1 := Scalar.cmpi .eq v176 c0_i32_80
  let v178 : BitVec 32 := Scalar.extui v177
  let c0_i32_81 : BitVec 32 := 0#32
  let v179 : BitVec 1 := Scalar.cmpi .ne v178 c0_i32_81
  v179

def k0_off1 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  ![v184.toNat]
def k0_off2 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let c0_i32_93 : BitVec 32 := 0#32
  let c0_i32_94 : BitVec 32 := 0#32
  ![v184.toNat, 0, 0]
def k0_cond5 (k0_t1 : Fin k0_t1_loop.trips) : BitVec 1 :=
  let c0_i32_19 : BitVec 32 := 0#32
  let c1_i32_20 : BitVec 32 := 1#32
  let arg21 : BitVec 32 := Scf.iv c0_i32_19 c1_i32_20 k0_t1
  let c13_i32 : BitVec 32 := 13#32
  let v203 : BitVec 1 := Scalar.cmpi .sle arg21 c13_i32
  let v204 : BitVec 32 := Scalar.extui v203
  let c0_i32_97 : BitVec 32 := 0#32
  let v205 : BitVec 1 := Scalar.cmpi .ne v204 c0_i32_97
  v205

def k0_off3 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  ![v189.toNat]
def k0_off4 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  let c0_i32_174 : BitVec 32 := 0#32
  let c0_i32_175 : BitVec 32 := 0#32
  ![v189.toNat, 0, 0]
def k0_off5 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let c0_i32_176 : BitVec 32 := 0#32
  let c0_i32_177 : BitVec 32 := 0#32
  ![v184.toNat, 0, 0]
def k0_dev5 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_172 : BitVec 32 := 1#32
  let v386 : BitVec 32 := Scalar.muli v5 c1_i32_172
  let v387 : BitVec 32 := Scalar.addi c0_i32_173 v386
  v387.toNat
def k0_off6 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let v206 : Index := Scalar.indexCast v184
  let c0_98 : Index := 0#32
  let c0_99 : Index := 0#32
  ![v206.toNat, 0, 0]
def k0_cond6 (k0_t1 : Fin k0_t1_loop.trips) : BitVec 1 :=
  let c0_i32_19 : BitVec 32 := 0#32
  let c1_i32_20 : BitVec 32 := 1#32
  let arg21 : BitVec 32 := Scf.iv c0_i32_19 c1_i32_20 k0_t1
  let c1_i32_152 : BitVec 32 := 1#32
  let v351 : BitVec 1 := Scalar.cmpi .sge arg21 c1_i32_152
  let v352 : BitVec 32 := Scalar.extui v351
  let c0_i32_153 : BitVec 32 := 0#32
  let v353 : BitVec 1 := Scalar.cmpi .ne v352 c0_i32_153
  v353

def k0_off7 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  ![v184.toNat]
def k0_off8 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let c0_i32_174 : BitVec 32 := 0#32
  let c0_i32_175 : BitVec 32 := 0#32
  ![v184.toNat, 0, 0]
def k0_off9 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  ![v189.toNat]
def k0_off10 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  let c0_i32_160 : BitVec 32 := 0#32
  let c0_i32_161 : BitVec 32 := 0#32
  ![v189.toNat, 0, 0]
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_158 : BitVec 32 := 1#32
  let v364 : BitVec 32 := Scalar.muli v5 c1_i32_158
  let v365 : BitVec 32 := Scalar.addi c0_i32_159 v364
  v365.toNat
def k0_cond7 (k0_t1 : Fin k0_t1_loop.trips) : BitVec 1 :=
  let c0_i32_19 : BitVec 32 := 0#32
  let c1_i32_20 : BitVec 32 := 1#32
  let arg21 : BitVec 32 := Scf.iv c0_i32_19 c1_i32_20 k0_t1
  let c13_i32_164 : BitVec 32 := 13#32
  let v374 : BitVec 1 := Scalar.cmpi .sle arg21 c13_i32_164
  let v375 : BitVec 32 := Scalar.extui v374
  let c0_i32_165 : BitVec 32 := 0#32
  let v376 : BitVec 1 := Scalar.cmpi .ne v375 c0_i32_165
  v376

def k0_off11 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  ![v189.toNat]
def k0_off12 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let c0_i32_173 : BitVec 32 := 0#32
  let c0_i32_174 : BitVec 32 := 0#32
  ![v184.toNat, 0, 0]
def k0_off13 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  let c0_i32_175 : BitVec 32 := 0#32
  let c0_i32_176 : BitVec 32 := 0#32
  ![v189.toNat, 0, 0]
def k0_cond8 (k0_t1 : Fin k0_t1_loop.trips) : BitVec 1 :=
  let c0_i32_19 : BitVec 32 := 0#32
  let c1_i32_20 : BitVec 32 := 1#32
  let arg21 : BitVec 32 := Scf.iv c0_i32_19 c1_i32_20 k0_t1
  let c11_i32 : BitVec 32 := 11#32
  let v383 : BitVec 1 := Scalar.cmpi .sle arg21 c11_i32
  let v384 : BitVec 32 := Scalar.extui v383
  let c0_i32_171 : BitVec 32 := 0#32
  let v385 : BitVec 1 := Scalar.cmpi .ne v384 c0_i32_171
  v385

def k0_dev7 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_173 : BitVec 32 := 1#32
  let v386 : BitVec 32 := Scalar.muli v7 c1_i32_173
  let v387 : BitVec 32 := Scalar.addi c0_i32_174 v386
  v387.toNat
def k0_cond9 (d0 : Dev nD) (k0_t1 : Fin k0_t1_loop.trips) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_19 : BitVec 32 := 0#32
  let c1_i32_20 : BitVec 32 := 1#32
  let arg21 : BitVec 32 := Scf.iv c0_i32_19 c1_i32_20 k0_t1
  let v175 : BitVec 32 := Scalar.addi v2 arg21
  let c2_i32_79 : BitVec 32 := 2#32
  let v176 : BitVec 32 := Scalar.remsi v175 c2_i32_79
  let c0_i32_80 : BitVec 32 := 0#32
  let v177 : BitVec 1 := Scalar.cmpi .eq v176 c0_i32_80
  let true_82 : BitVec 1 := 1#1
  let v180 : BitVec 1 := Scalar.xori v177 true_82
  let v181 : BitVec 32 := Scalar.extui v180
  let c0_i32_83 : BitVec 32 := 0#32
  let v182 : BitVec 1 := Scalar.cmpi .ne v181 c0_i32_83
  v182

def k0_off14 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  ![v184.toNat]
def k0_off15 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let c0_i32_93 : BitVec 32 := 0#32
  let c0_i32_94 : BitVec 32 := 0#32
  ![v184.toNat, 0, 0]
def k0_cond11 (k0_t1 : Fin k0_t1_loop.trips) : BitVec 1 :=
  let c0_i32_19 : BitVec 32 := 0#32
  let c1_i32_20 : BitVec 32 := 1#32
  let arg21 : BitVec 32 := Scf.iv c0_i32_19 c1_i32_20 k0_t1
  let c13_i32 : BitVec 32 := 13#32
  let v203 : BitVec 1 := Scalar.cmpi .sle arg21 c13_i32
  let v204 : BitVec 32 := Scalar.extui v203
  let c0_i32_97 : BitVec 32 := 0#32
  let v205 : BitVec 1 := Scalar.cmpi .ne v204 c0_i32_97
  v205

def k0_off16 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  ![v189.toNat]
def k0_off17 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  let c0_i32_174 : BitVec 32 := 0#32
  let c0_i32_175 : BitVec 32 := 0#32
  ![v189.toNat, 0, 0]
def k0_off18 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let c0_i32_176 : BitVec 32 := 0#32
  let c0_i32_177 : BitVec 32 := 0#32
  ![v184.toNat, 0, 0]
def k0_dev8 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_172 : BitVec 32 := 1#32
  let v386 : BitVec 32 := Scalar.muli v7 c1_i32_172
  let v387 : BitVec 32 := Scalar.addi c0_i32_173 v386
  v387.toNat
def k0_off19 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let v206 : Index := Scalar.indexCast v184
  let c0_98 : Index := 0#32
  let c0_99 : Index := 0#32
  ![v206.toNat, 0, 0]
def k0_cond12 (k0_t1 : Fin k0_t1_loop.trips) : BitVec 1 :=
  let c0_i32_19 : BitVec 32 := 0#32
  let c1_i32_20 : BitVec 32 := 1#32
  let arg21 : BitVec 32 := Scf.iv c0_i32_19 c1_i32_20 k0_t1
  let c1_i32_152 : BitVec 32 := 1#32
  let v351 : BitVec 1 := Scalar.cmpi .sge arg21 c1_i32_152
  let v352 : BitVec 32 := Scalar.extui v351
  let c0_i32_153 : BitVec 32 := 0#32
  let v353 : BitVec 1 := Scalar.cmpi .ne v352 c0_i32_153
  v353

def k0_off20 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  ![v184.toNat]
def k0_off21 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let c0_i32_174 : BitVec 32 := 0#32
  let c0_i32_175 : BitVec 32 := 0#32
  ![v184.toNat, 0, 0]
def k0_off22 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  ![v189.toNat]
def k0_off23 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  let c0_i32_160 : BitVec 32 := 0#32
  let c0_i32_161 : BitVec 32 := 0#32
  ![v189.toNat, 0, 0]
def k0_dev9 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_158 : BitVec 32 := 1#32
  let v364 : BitVec 32 := Scalar.muli v7 c1_i32_158
  let v365 : BitVec 32 := Scalar.addi c0_i32_159 v364
  v365.toNat
def k0_cond13 (k0_t1 : Fin k0_t1_loop.trips) : BitVec 1 :=
  let c0_i32_19 : BitVec 32 := 0#32
  let c1_i32_20 : BitVec 32 := 1#32
  let arg21 : BitVec 32 := Scf.iv c0_i32_19 c1_i32_20 k0_t1
  let c13_i32_164 : BitVec 32 := 13#32
  let v374 : BitVec 1 := Scalar.cmpi .sle arg21 c13_i32_164
  let v375 : BitVec 32 := Scalar.extui v374
  let c0_i32_165 : BitVec 32 := 0#32
  let v376 : BitVec 1 := Scalar.cmpi .ne v375 c0_i32_165
  v376

def k0_off24 (k0_t1 : Fin k0_t1_loop.trips) : Fin 1 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  ![v189.toNat]
def k0_off25 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_84 : BitVec 32 := 2#32
  let v183 : BitVec 32 := Scalar.divsi arg21 c2_i32_84
  let c2_i32_85 : BitVec 32 := 2#32
  let v184 : BitVec 32 := Scalar.remsi v183 c2_i32_85
  let c0_i32_173 : BitVec 32 := 0#32
  let c0_i32_174 : BitVec 32 := 0#32
  ![v184.toNat, 0, 0]
def k0_off26 (k0_t1 : Fin k0_t1_loop.trips) : Fin 3 → Nat :=
  let c0_i32_19 : BitVec 32 := 0#32
  let c1_i32_20 : BitVec 32 := 1#32
  let arg21 : BitVec 32 := Scf.iv c0_i32_19 c1_i32_20 k0_t1
  let c2_i32_88 : BitVec 32 := 2#32
  let v187 : BitVec 32 := Scalar.remsi arg21 c2_i32_88
  let c0_i32_89 : BitVec 32 := 0#32
  let v188 : BitVec 1 := Scalar.cmpi .eq v187 c0_i32_89
  let c2_i32_84 : BitVec 32 := 2#32
  let v183 : BitVec 32 := Scalar.divsi arg21 c2_i32_84
  let c2_i32_85 : BitVec 32 := 2#32
  let v184 : BitVec 32 := Scalar.remsi v183 c2_i32_85
  let c1_i32_86 : BitVec 32 := 1#32
  let v185 : BitVec 32 := Scalar.addi v183 c1_i32_86
  let c2_i32_87 : BitVec 32 := 2#32
  let v186 : BitVec 32 := Scalar.remsi v185 c2_i32_87
  let v189 : BitVec 32 := Scalar.select v188 v184 v186
  let c0_i32_175 : BitVec 32 := 0#32
  let c0_i32_176 : BitVec 32 := 0#32
  ![v189.toNat, 0, 0]
def k0_cond14 (k0_t1 : Fin k0_t1_loop.trips) : BitVec 1 :=
  let c0_i32_19 : BitVec 32 := 0#32
  let c1_i32_20 : BitVec 32 := 1#32
  let arg21 : BitVec 32 := Scf.iv c0_i32_19 c1_i32_20 k0_t1
  let c11_i32 : BitVec 32 := 11#32
  let v383 : BitVec 1 := Scalar.cmpi .sle arg21 c11_i32
  let v384 : BitVec 32 := Scalar.extui v383
  let c0_i32_171 : BitVec 32 := 0#32
  let v385 : BitVec 1 := Scalar.cmpi .ne v384 c0_i32_171
  v385

def k0_dev10 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_173 : BitVec 32 := 1#32
  let v386 : BitVec 32 := Scalar.muli v5 c1_i32_173
  let v387 : BitVec 32 := Scalar.addi c0_i32_174 v386
  v387.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x512x1024 : Shape := ⟨3, ![16, 512, 1024]⟩
abbrev S1024x16384 : Shape := ⟨2, ![1024, 16384]⟩
abbrev S16384x1024 : Shape := ⟨2, ![16384, 1024]⟩
abbrev S16x512x16384 : Shape := ⟨3, ![16, 512, 16384]⟩
abbrev S16x512x128x128 : Shape := ⟨4, ![16, 512, 128, 128]⟩
abbrev S16x128x512x512 : Shape := ⟨4, ![16, 128, 512, 512]⟩
abbrev S_ : Shape := ⟨0, ![]⟩
abbrev S16x128x512 : Shape := ⟨3, ![16, 128, 512]⟩
abbrev S16x128x512x1 : Shape := ⟨4, ![16, 128, 512, 1]⟩
abbrev S16x128x128x512 : Shape := ⟨4, ![16, 128, 128, 512]⟩
abbrev S16x512x128x1 : Shape := ⟨4, ![16, 512, 128, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x512x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S16x512x16384, .f32⟩
  | .hbm, ⟨6, _⟩ => ⟨S16x512x128x128, .f32⟩
  | .hbm, ⟨7, _⟩ => ⟨S16x512x16384, .f32⟩
  | .hbm, ⟨8, _⟩ => ⟨S16x512x128x128, .f32⟩
  | .hbm, ⟨9, _⟩ => ⟨S16x512x16384, .f32⟩
  | .hbm, ⟨10, _⟩ => ⟨S16x512x128x128, .f32⟩
  | .hbm, ⟨11, _⟩ => ⟨S16x128x512x512, .f32⟩
  | .hbm, ⟨12, _⟩ => ⟨S_, .f32⟩
  | .hbm, ⟨13, _⟩ => ⟨S16x128x512x512, .f32⟩
  | .hbm, ⟨14, _⟩ => ⟨S16x128x512x512, .f32⟩
  | .hbm, ⟨15, _⟩ => ⟨S_, .f32⟩
  | .hbm, ⟨16, _⟩ => ⟨S16x128x512, .f32⟩
  | .hbm, ⟨17, _⟩ => ⟨S16x128x512x1, .f32⟩
  | .hbm, ⟨18, _⟩ => ⟨S16x128x512x512, .f32⟩
  | .hbm, ⟨19, _⟩ => ⟨S16x128x512x512, .f32⟩
  | .hbm, ⟨20, _⟩ => ⟨S16x128x512x512, .f32⟩
  | .hbm, ⟨21, _⟩ => ⟨S_, .f32⟩
  | .hbm, ⟨22, _⟩ => ⟨S16x128x512, .f32⟩
  | .hbm, ⟨23, _⟩ => ⟨S16x128x512x1, .f32⟩
  | .hbm, ⟨24, _⟩ => ⟨S16x128x128x512, .f32⟩
  | .hbm, ⟨25, _⟩ => ⟨S16x512x128x128, .f32⟩
  | .hbm, ⟨26, _⟩ => ⟨S16x512x128x1, .f32⟩
  | .hbm, ⟨27, _⟩ => ⟨S16x512x128x128, .f32⟩
  | .hbm, ⟨28, _⟩ => ⟨S16x512x128x128, .f32⟩
  | .hbm, ⟨29, _⟩ => ⟨S16x512x16384, .f32⟩
  | .hbm, ⟨30, _⟩ => ⟨S16x512x1024, .f32⟩
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.ProtoI.lean ====
/- The protocol of the two rings of the kernel: the rings of devices, the cells, the rounds with what each duty
   hands over, the slots handed back to their writers, and what each wait and each signal is labelled. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Release
public import Idealize.ShloMosaic.Lib.Memref
public import Idealize.ShloMosaic.Lib.Tactic

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra -/

/-- A slot handed back once: the device it lies on, the ring, and how often that device has handed one back on that ring before. -/
abbrev Key : Type := Dev nD × Bool × ℕ
abbrev UB : Type := URounds (GSem nD τ sig) ℕ
abbrev US : Type := Release.USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-! ## The rings -/

/-- The device this one sends to, on the left ring (`true`) or the right one. -/
def outN (b : Bool) (c : Dev nD) : Dev nD :=
  if b then ⟨(c.val + 15) % 16, Nat.mod_lt _ (by decide)⟩ else ⟨(c.val + 1) % 16, Nat.mod_lt _ (by decide)⟩
/-- The device that sends to this one on a ring is the one it sends to on the other. -/
abbrev inN (b : Bool) (c : Dev nD) : Dev nD := outN (!b) c

theorem outN_inN (b : Bool) (c : Dev nD) : outN b (outN (!b) c) = c := by revert b c; decide
theorem inN_outN (b : Bool) (c : Dev nD) : outN (!b) (outN b c) = c := by revert b c; decide

/-- The ring on which a device takes part in step `h`. -/
def rg (c : Dev nD) (h : ℕ) : Bool := decide ((c.val + h) % 2 = 0)
/-- The parity of the steps in which it takes part on ring `b`. -/
def par (b : Bool) (c : Dev nD) : ℕ := (c.val + if b then 0 else 1) % 2
/-- The slot a step reads. -/
def sl (h : ℕ) : Fin 2 := ⟨h / 2 % 2, Nat.mod_lt _ (by decide)⟩

/-- The device whose activations arrive at `c` for step `h`. -/
def org (c : Dev nD) (h : ℕ) : Dev nD :=
  if (c.val + h) % 2 = 0 then ⟨(c.val + 1 + h) % 16, Nat.mod_lt _ (by decide)⟩ else ⟨(c.val + 31 - h % 16) % 16, Nat.mod_lt _ (by decide)⟩

theorem par_lt (b : Bool) (c : Dev nD) : par b c < 2 := Nat.mod_lt _ (by decide)
theorem par_rg (c : Dev nD) (h : ℕ) : par (rg c h) c = h % 2 := by
  unfold par rg
  by_cases hh : (c.val + h) % 2 = 0
  · rw [decide_eq_true hh]; simp; omega
  · rw [decide_eq_false hh]; simp; omega
theorem rg_eq_iff (b : Bool) (c : Dev nD) (h : ℕ) : rg c h = b ↔ h % 2 = par b c := by
  unfold par rg
  cases b <;> simp <;> omega
theorem par_outN (b : Bool) (c : Dev nD) : par b (outN b c) = 1 - par b c := by revert b c; decide
theorem par_inN (b : Bool) (c : Dev nD) : par b (outN (!b) c) = 1 - par b c := by revert b c; decide
theorem rg_outN (b : Bool) (c : Dev nD) (h : ℕ) : rg (outN b c) (h + 1) = rg c h := by
  unfold rg
  have h1 : ((outN b c).val + 1) % 2 = c.val % 2 := by revert b c; decide
  have : ((outN b c).val + (h + 1)) % 2 = (c.val + h) % 2 := by omega
  rw [this]

theorem org_outN (c : Dev nD) (h : ℕ) (hh : h < 15) : org (outN (rg c h) c) (h + 1) = org c h := by
  have : ∀ h : Fin 15, org (outN (rg c h.val) c) (h.val + 1) = org c h.val := by revert c; decide
  exact this ⟨h, hh⟩
theorem org_pre (b : Bool) (c : Dev nD) (hp : par b c = 1) : org (outN b c) 0 = c := by revert b c; decide
theorem org_last (c : Dev nD) : org c 15 = c := by revert c; decide

/-! ## The memrefs, the semaphores and the cells -/

abbrev xM (b : Bool) : Memref sig .tc .vmem S2x512x1024 .bf16 := match b with
  | true => Memref.whole cc0_scratch0 | false => Memref.whole cc0_scratch2
abbrev aM (b : Bool) : Memref sig .tc .vmem S2x512x1024 .bf16 := match b with
  | true => Memref.whole cc0_scratch1 | false => Memref.whole cc0_scratch3
abbrev xoM : Memref sig .tc .vmem S512x1024 .bf16 := Memref.whole cc0_scratch4
def sems (b : Bool) (k : Fin 4) : DmaSems sig S2 := match b, k with
  | true, 0 => cc0_scratch5 | true, 1 => cc0_scratch6 | true, 2 => cc0_scratch7 | true, 3 => cc0_scratch8
  | false, 0 => cc0_scratch9 | false, 1 => cc0_scratch10 | false, 2 => cc0_scratch11 | false, 3 => cc0_scratch12
def crS (b : Bool) : Sems sig S_ := match b with | true => cc0_scratch13 | false => cc0_scratch14

theorem slot_inb (s : Fin 2) : ∀ a, (![s.val, 0, 0] : Fin 3 → ℕ) a + S1x512x1024.size a ≤ S2x512x1024.size a := by
  revert s; decide
theorem sem_inb (s : Fin 2) : ∀ a, (![s.val] : Fin 1 → ℕ) a + S1.size a ≤ S2.size a := by
  revert s; decide

abbrev slotR (s : Fin 2) : Rect S2x512x1024 := Rect.unit (s := S2x512x1024) ![s.val, 0, 0] S1x512x1024.size (slot_inb s)
/-- One slot of a buffer of two. -/
abbrev slotM (M : Memref sig .tc .vmem S2x512x1024 .bf16) (s : Fin 2) : Memref sig .tc .vmem S512x1024 .bf16 :=
  (M.slice (slotR s) (fun _ => rfl)).squeeze S512x1024 squeezes_S1x512x1024_S512x1024
abbrev semAt (q : DmaSems sig S2) (s : Fin 2) : DmaSem sig :=
  ((q.slice (Rect.unit (s := S2) ![s.val] S1.size (sem_inb s))).squeeze S_ squeezes_S1_S_).sem

/-- The DMA semaphores of ring `b`: 0 the activations sent, 1 received, 2 the partial sums sent, 3 received; by slot. -/
def dsem (b : Bool) (k : Fin 4) (s : Fin 2) : DmaSem sig := semAt (sems b k) s
abbrev barS : Sem sig := (SemArray.scalar (sig.barrier 0 rfl) : Sems sig S_).sem

abbrev dcell (c : Dev nD) (b : Bool) (k : Fin 4) (s : Fin 2) : GSem nD τ sig := ((c : Thread nD τ), .dma (dsem b k s))
abbrev crCell (c : Dev nD) (b : Bool) : GSem nD τ sig := ((c : Thread nD τ), .reg (crS b).sem)
abbrev barCell (c : Dev nD) : GSem nD τ sig := ((c : Thread nD τ), .reg barS)

/-- Which ring, use and slot a DMA semaphore belongs to. -/
def dec (q : DmaSem sig) : Bool × Fin 4 × Fin 2 :=
  (decide ((q.val - 6) / 8 = 0), ⟨(q.val - 6) % 8 / 2, by omega⟩, ⟨(q.val - 6) % 2, by omega⟩)
theorem dec_dsem (b : Bool) (k : Fin 4) (s : Fin 2) : dec (dsem b k s) = (b, k, s) := by revert b k s; decide
theorem dsem_ge (b : Bool) (k : Fin 4) (s : Fin 2) : 6 ≤ (dsem b k s).val := by revert b k s; decide
theorem cr_ne_bar (b : Bool) : (crS b).sem ≠ barS := by revert b; decide
theorem cr_inj (b b' : Bool) : (crS b).sem = (crS b').sem → b = b' := by revert b b'; decide

/-- The credit of one transfer. -/
def N : ℕ := (xoM : Memref sig .tc .vmem S512x1024 .bf16).view.dmaCredit
theorem N_pos : 0 < N := View.dmaCredit_pos _ (by decide)

/-! ## The rounds -/

/-- The step (counted from one) a round of a cell belongs to, by parity of the owner's steps, slot and round. -/
def gsx (p s r : ℕ) : ℕ := 4 * r + 2 * s + (1 - p)
def hx (p s r : ℕ) : ℕ := 4 * r + 2 * s + p
def hsa (p s r : ℕ) : ℕ := if p = 0 then 4 * r + 2 * s else if s = 1 then 4 * r + 1 else 4 * r + 3
def ha (p s r : ℕ) : ℕ := if p = 1 then 4 * r + 2 * s + 1 else if s = 1 then 4 * r + 2 else 4 * r + 4

/-- Whether a round of a cell is used. -/
def live (p : ℕ) (k : Fin 4) (s r : ℕ) : Prop := match k with
  | 0 => gsx p s r ≤ 14 | 1 => hx p s r ≤ 14 | 2 => hsa p s r ≤ 14 | 3 => ha p s r ≤ 15
instance live_dec (p : ℕ) (k : Fin 4) (s r : ℕ) : Decidable (live p k s r) := by unfold live; split <;> infer_instance

abbrev half : PosShare TreeShare := fullShare.left
abbrev half' : PosShare TreeShare := fullShare.right

section Pay
-- what each device sends of its activations, and the partial sum of each device after each number of steps
variable (X : Dev nD → Vec F S512x1024 .bf16) (A : Dev nD → ℕ → Vec F S512x1024 .bf16)

def payD (c : Dev nD) (b : Bool) (k : Fin 4) (s : Fin 2) (r : ℕ) : sProp 𝕄 := match k with
  | 0 => if gsx (par b c) s.val r = 0 then owns (c : Thread nD τ) xoM fullShare (X c)
      else owns (c : Thread nD τ) (slotM (xM b) (sl (gsx (par b c) s.val r - 1))) half (X (org c (gsx (par b c) s.val r - 1)))
  | 1 => owns (c : Thread nD τ) (slotM (xM b) s) fullShare (X (org c (hx (par b c) s.val r)))
  | 2 => owns (c : Thread nD τ) (slotM (aM b) (sl (hsa (par b c) s.val r))) fullShare
      (A (org c (hsa (par b c) s.val r)) (hsa (par b c) s.val r + 1))
  | 3 => owns (c : Thread nD τ) (slotM (aM b) s) fullShare (A (org c (ha (par b c) s.val r)) (ha (par b c) s.val r))

/-- A slot at any contents. -/
def anyS (c : Dev nD) (M : Memref sig .tc .vmem S2x512x1024 .bf16) (s : Fin 2) : sProp 𝕄 :=
  Release.slot ((slotM M s).view.loc (c : Thread nD τ)) (slotM M s).view.set

/-- What device `d` hands back to its writer on ring `b` for the `i`-th time. -/
def slotS (x : Key) : sProp 𝕄 :=
  iprop((if 2 * x.2.2 + par x.2.1 x.1 ≤ 10 then anyS (F := F) x.1 (xM x.2.1) ⟨x.2.2 % 2, Nat.mod_lt _ (by decide)⟩ else iprop(emp))
    ∗ anyS (F := F) x.1 (aM x.2.1) ⟨x.2.2 % 2, Nat.mod_lt _ (by decide)⟩)

/-- That device `d` has handed back for the `i`-th time on ring `b`, and that its receive cells are ready for what comes next. -/
def fact (d : Dev nD) (b : Bool) (i : ℕ) : sProp 𝕄 :=
  iprop(Release.released (ES (F := F)) (d, b, i) 1
    ∗ reached (ER (F := F)) (dcell d b 1 ⟨i % 2, Nat.mod_lt _ (by decide)⟩) ((2 * i + par b d + 4) / 4)
    ∗ reached (ER (F := F)) (dcell d b 3 ⟨i % 2, Nat.mod_lt _ (by decide)⟩) ((2 * i + par b d + 3) / 4))
def facts (d : Dev nD) (b : Bool) (n : ℕ) : sProp 𝕄 := bigSep (Finset.range n) (fact (F := F) d b)

/-- What a device hands its writer on ring `b` at entry: its slots that it does not itself write first. -/
def barPay (n : Dev nD) (b : Bool) : sProp 𝕄 :=
  iprop(anyS (F := F) n (xM b) 0 ∗ anyS (F := F) n (xM b) 1 ∗ anyS (F := F) n (aM b) 1
    ∗ (if par b n = 1 then anyS (F := F) n (aM b) 0 else iprop(emp)))

def bn (b : Bool) : ℕ := if b then 0 else 1

def meshRd : Rounds.Schedule (GSem nD τ sig) ℕ 𝕄 where
  duties g r := match g.2 with
    | .reg s => if r = 0 then (if s = barS then {0, 1} else if s = (crS true).sem ∨ s = (crS false).sem then Finset.range 6 else ∅) else ∅
    | .dma q => if 6 ≤ q.val ∧ live (par (dec q).1 g.1.1) (dec q).2.1 (dec q).2.2.val r then {0} else ∅
  unitless _ := False
  amount g _ _ := match g.2 with | .reg _ => 1 | .dma _ => N
  payload g r d := match g.2 with
    | .reg s => if s = barS then (barPay (F := F) (outN (decide (d = 0)) g.1.1) (decide (d = 0)))
        else if s = (crS true).sem then facts (F := F) (outN true g.1.1) true (d + 1)
        else facts (F := F) (outN false g.1.1) false (d + 1)
    | .dma q => payD X A g.1.1 (dec q).1 (dec q).2.1 (dec q).2.2 r
  amount_pos g r d h := by
    rcases g with ⟨t, _ | _⟩
    · exact Nat.one_pos
    · exact N_pos

instance payD_storable (c b k s r) : BI.Storable (upEmb : UEmb _ 𝕄) (payD (F := F) X A c b k s r) := by
  unfold payD; split
  · split <;> infer_instance
  all_goals infer_instance
instance anyS_storable (c M s) : BI.Storable (upEmb : UEmb _ 𝕄) (anyS (F := F) c M s) := by unfold anyS; infer_instance
instance slotS_storable (x : Key) : BI.Storable (upEmb : UEmb _ 𝕄) (slotS (F := F) x) := by unfold slotS; split <;> infer_instance
instance fact_storable (d b i) : BI.Storable (upEmb : UEmb _ 𝕄) (fact (F := F) d b i) := by unfold fact; infer_instance
instance facts_storable (d b i) : BI.Storable (upEmb : UEmb _ 𝕄) (facts (F := F) d b i) := by unfold facts; infer_instance
instance barPay_storable (d b) : BI.Storable (upEmb : UEmb _ 𝕄) (barPay (F := F) d b) := by unfold barPay; split <;> infer_instance
instance fact_persistent (d b i) : BI.Persistent (fact (F := F) d b i) := by unfold fact; infer_instance
instance facts_persistent (d b i) : BI.Persistent (facts (F := F) d b i) := by unfold facts; infer_instance

instance meshRd_storable (g : GSem nD τ sig) (r : ℕ) (d : ℕ) : BI.Storable (upEmb : UEmb _ 𝕄) ((meshRd (F := F) X A).payload g r d) := by
  rcases g with ⟨t, s | q⟩
  · show BI.Storable upEmb (if s = barS then (barPay (F := F) (outN (decide (d = 0)) t.1) (decide (d = 0)))
        else if s = (crS true).sem then facts (F := F) (outN true t.1) true (d + 1)
        else facts (F := F) (outN false t.1) false (d + 1))
    (repeat' split) <;> infer_instance
  · show BI.Storable upEmb (payD X A t.1 (dec q).1 (dec q).2.1 (dec q).2.2 r)
    infer_instance

section Sched
variable (c : Dev nD) (b : Bool) (k : Fin 4) (s : Fin 2) (r d : ℕ)

theorem duties_d (h : live (par b c) k s.val r) : (meshRd (F := F) X A).duties (dcell c b k s) r = {0} := by
  show (if 6 ≤ (dsem b k s).val ∧ live (par (dec (dsem b k s)).1 c) (dec (dsem b k s)).2.1 (dec (dsem b k s)).2.2.val r then ({0} : Finset ℕ) else ∅) = {0}
  rw [dec_dsem]; exact if_pos ⟨dsem_ge b k s, h⟩
theorem duties_d_none (h : ¬ live (par b c) k s.val r) : (meshRd (F := F) X A).duties (dcell c b k s) r = ∅ := by
  show (if 6 ≤ (dsem b k s).val ∧ live (par (dec (dsem b k s)).1 c) (dec (dsem b k s)).2.1 (dec (dsem b k s)).2.2.val r then ({0} : Finset ℕ) else ∅) = ∅
  rw [dec_dsem]; exact if_neg (fun h' => h h'.2)
theorem duties_cr : (meshRd (F := F) X A).duties (crCell c b) 0 = Finset.range 6 := by
  show (if 0 = 0 then (if (crS b).sem = barS then {0, 1} else if (crS b).sem = (crS true).sem ∨ (crS b).sem = (crS false).sem then Finset.range 6 else ∅) else ∅) = Finset.range 6
  rw [if_pos rfl, if_neg (cr_ne_bar b), if_pos (by cases b; exact .inr rfl; exact .inl rfl)]
theorem duties_bar : (meshRd (F := F) X A).duties (barCell c) 0 = {0, 1} := rfl
theorem duties_reg_later (sm : Sem sig) (hr : r ≠ 0) : (meshRd (F := F) X A).duties ((c : Thread nD τ), .reg sm) r = ∅ := if_neg hr
theorem payload_d : (meshRd (F := F) X A).payload (dcell c b k s) r d = payD X A c b k s r := by
  show payD X A c (dec (dsem b k s)).1 (dec (dsem b k s)).2.1 (dec (dsem b k s)).2.2 r = _
  rw [dec_dsem]
theorem payload_cr : (meshRd (F := F) X A).payload (crCell c b) r d = facts (F := F) (outN b c) b (d + 1) := by
  show (if (crS b).sem = barS then (barPay (F := F) (outN (decide (d = 0)) c) (decide (d = 0)))
        else if (crS b).sem = (crS true).sem then facts (F := F) (outN true c) true (d + 1)
        else facts (F := F) (outN false c) false (d + 1)) = _
  rw [if_neg (cr_ne_bar b)]
  cases b
  · exact if_neg (by decide)
  · exact if_pos rfl
theorem payload_bar : (meshRd (F := F) X A).payload (barCell c) r d = barPay (F := F) (outN (decide (d = 0)) c) (decide (d = 0)) := by
  show (if barS = barS then (barPay (F := F) (outN (decide (d = 0)) c) (decide (d = 0)))
        else if barS = (crS true).sem then facts (F := F) (outN true c) true (d + 1)
        else facts (F := F) (outN false c) false (d + 1)) = _
  rw [if_pos rfl]
theorem amount_d : (meshRd (F := F) X A).amount (dcell c b k s) r d = N := rfl
theorem amount_r (sm : Sem sig) : (meshRd (F := F) X A).amount ((c : Thread nD τ), .reg sm) r d = 1 := rfl
theorem expect_d (h : live (par b c) k s.val r) : (meshRd (F := F) X A).expect (dcell c b k s) r = N := by
  show ∑ d ∈ (meshRd (F := F) X A).duties (dcell c b k s) r, (meshRd (F := F) X A).amount (dcell c b k s) r d = N
  rw [duties_d X A c b k s r h]; simp [amount_d]
theorem expect_cr : (meshRd (F := F) X A).expect (crCell c b) 0 = 6 := by
  show ∑ d ∈ (meshRd (F := F) X A).duties (crCell c b) 0, (meshRd (F := F) X A).amount (crCell c b) 0 d = 6
  rw [duties_cr X A c b]; simp [amount_r]
theorem expect_bar : (meshRd (F := F) X A).expect (barCell c) 0 = 2 := rfl

end Sched
end Pay

end Cert.KernelIdeal.Mesh
-- ==== Proof.StepI.lean ====
/- Single operations of a step of the rings, each at a symbolic ring and step. -/
module

public import proofs.«01_k».proof.Proof.ProtoI

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-! ## Slots: their contents, loads and stores -/

theorem sc_up : S512x1024.ShapeCasts S1x512x1024 := by decide
theorem sc_down : S1x512x1024.ShapeCasts S512x1024 := by decide
/-- A block as the load of a slot reads it; and what the store of a block leaves in the slot. -/
abbrev up (V : Vec F S512x1024 .bf16) : Vec F S1x512x1024 .bf16 := shapeCast S1x512x1024 V sc_up
abbrev down (V : Vec F S1x512x1024 .bf16) : Vec F S512x1024 .bf16 := shapeCast S512x1024 V sc_down

theorem semAt_eq (q : DmaSems sig S2) (o : Fin 1 → ℕ) (ho : ∀ a, o a + S1.size a ≤ S2.size a) (s : Fin 2) (h : o = ![s.val]) :
    ((q.slice (Rect.unit (s := S2) o S1.size ho)).squeeze S_ squeezes_S1_S_).sem = semAt q s := by subst h; rfl

theorem slotM_eq (M : Memref sig .tc .vmem S2x512x1024 .bf16) (o : Fin 3 → ℕ)
    (ho : ∀ a, o a + S1x512x1024.size a ≤ S2x512x1024.size a) (s : Fin 2) (h : o = ![s.val, 0, 0]) :
    (M.slice (Rect.unit (s := S2x512x1024) o S1x512x1024.size ho) (fun _ => rfl)).squeeze S512x1024 squeezes_S1x512x1024_S512x1024 = slotM M s := by
  subst h; rfl

theorem slot_set (M : Memref sig .tc .vmem S2x512x1024 .bf16) (s : Fin 2) :
    (slotM M s).view.set = (M.view.slice (slotR s)).set := View.set_reshape _ _

theorem read_slot (M : Memref sig .tc .vmem S2x512x1024 .bf16) (s : Fin 2) (f : M.view.ty.Contents (Elt F)) :
    (slotM M s).view.read (Elt F) f = down (M.view.readAt (Elt F) (slotR s).toLoadRect f) := rfl

theorem readAt_write_slot (M : Memref sig .tc .vmem S2x512x1024 .bf16) (s : Fin 2) (f : M.view.ty.Contents (Elt F))
    (w : (slotR s).shape.Idx → Elt F .bf16) :
    M.view.readAt (Elt F) (slotR s).toLoadRect ((M.access (slotR s)).write (Elt F) f w Finset.univ) = w := by
  show (M.view.slice (slotR s)).read (Elt F) ((M.view.slice (slotR s)).write (Elt F) f w Finset.univ) = w
  exact View.read_write_univ (v := M.view.slice (slotR s)) f w

theorem owns_anyS (c : Dev nD) (M : Memref sig .tc .vmem S2x512x1024 .bf16) (s : Fin 2) (V : Vec F S512x1024 .bf16) :
    (owns (c : Thread nD τ) (slotM M s) fullShare V : sProp 𝕄) ⊢ anyS c M s := by
  unfold owns anyS Release.slot
  iintro ⟨%f, -, H⟩
  iexists f; iexact H

theorem anyS_false (c : Dev nD) (M : Memref sig .tc .vmem S2x512x1024 .bf16) (s : Fin 2) :
    iprop(anyS (F := F) c M s ∗ anyS c M s) ⊢ (False : sProp 𝕄) := by
  unfold anyS
  refine Release.slot_slot_false ⟨_, (slotM M s).view.emb_mem_set (fun a => ⟨0, by revert a; decide⟩)⟩

section Ops

theorem wp_load_slot (c : Dev nD) {α : Type} {Q : α → sProp 𝕄} {q : PosShare TreeShare} (M : Memref sig .tc .vmem S2x512x1024 .bf16) (o : Fin 3 → ℕ)
    (ho : ∀ a, o a + S1x512x1024.size a ≤ S2x512x1024.size a) (s : Fin 2) (h : o = ![s.val, 0, 0]) (V : Vec F S512x1024 .bf16)
    {hl : M.view.LoadsAt (Rect.unit (s := S2x512x1024) o S1x512x1024.size ho).toLoadRect}
    {k : Vec F S1x512x1024 .bf16 → Prog (TpuEff nD τ sig (Elt F) Λ₀ .tc) α} :
    owns (c : Thread nD τ) (slotM M s) q V
      ⊢ iprop((owns (c : Thread nD τ) (slotM M s) q V -∗ wp frame (wpE (defs₀ (F := F)) 𝒱₀ c none) Set.univ (k (up V)) Q)
        -∗ wp frame (wpE (defs₀ (F := F)) 𝒱₀ c none) Set.univ
            (.op (.load M (Rect.unit (s := S2x512x1024) o S1x512x1024.size ho).toLoadRect hl) k) Q) := by
  subst h
  unfold owns
  iintro ⟨%f, %hf, H⟩ Hk
  iapply (wp_load 𝒱₀ (c : Thread nD τ) none Set.univ (m := M) (S := (slotM M s).view.set)
    (by rw [slot_set, View.set_slice]; exact Finset.Subset.refl _)) $$ H
  iintro H
  have hv : M.view.readAt (Elt F) (slotR s).toLoadRect f = up V := by
    rw [← hf]; exact (shapeCast_shapeCast _ _ _).symm
  rw [hv]
  iapply Hk
  iexists f; isplitr; · ipureintro; exact hf
  iexact H

/-- The store of a block into a rectangle of a buffer of two. -/
abbrev stOp (M : Memref sig .tc .vmem S2x512x1024 .bf16) (o : Fin 3 → ℕ)
    (ho : ∀ a, o a + S1x512x1024.size a ≤ S2x512x1024.size a) (w : Vec F S1x512x1024 .bf16)
    (hx : View.Stores (cs := .vmem) (M.access (Rect.unit (s := S2x512x1024) o S1x512x1024.size ho)) Finset.univ) :
    TpuEff nD τ sig (Elt F) Λ₀ .tc PUnit :=
  .store (cs := .vmem) M (Rect.unit (s := S2x512x1024) o S1x512x1024.size ho) w Finset.univ hx (.inl rfl)

theorem wp_store_slot (c : Dev nD) {α : Type} {Q : α → sProp 𝕄} (M : Memref sig .tc .vmem S2x512x1024 .bf16) (o : Fin 3 → ℕ)
    (ho : ∀ a, o a + S1x512x1024.size a ≤ S2x512x1024.size a) (s : Fin 2) (h : o = ![s.val, 0, 0])
    (w : Vec F S1x512x1024 .bf16)
    {hx : View.Stores (cs := .vmem) (M.access (Rect.unit (s := S2x512x1024) o S1x512x1024.size ho)) Finset.univ}
    {k : PUnit.{1} → Prog (TpuEff nD τ sig (Elt F) Λ₀ .tc) α} :
    anyS c M s
      ⊢ iprop((owns (c : Thread nD τ) (slotM M s) fullShare (down w) -∗ wp frame (wpE (defs₀ (F := F)) 𝒱₀ c none) Set.univ (k ⟨⟩) Q)
        -∗ wp frame (wpE (defs₀ (F := F)) 𝒱₀ c none) Set.univ
            (.op (stOp M o ho w hx) k) Q) := by
  subst h
  unfold owns anyS Release.slot
  iintro ⟨%f, H⟩ Hk
  have hS : (M.access (slotR s)).setOn Finset.univ ⊆ (slotM M s).view.set := by
    rw [slot_set]; exact Finset.Subset.refl _
  iapply (wp_store 𝒱₀ (c : Thread nD τ) none Set.univ (m := M) (r := slotR s) (Mk := Finset.univ) (S := (slotM M s).view.set) hS) $$ H
  iintro H
  iapply Hk
  iexists (M.access (slotR s)).write (Elt F) f w Finset.univ
  isplitr
  · ipureintro
    exact (read_slot M s _).trans (congrArg down (readAt_write_slot M s f w))
  · iexact H

end Ops

theorem credit_of (m : Memref sig .tc .vmem S512x1024 .bf16) : m.view.dmaCredit = N := by
  show View.dmaCredit _ = View.dmaCredit _
  unfold View.dmaCredit
  rfl

/-! ## The cells of a device, and what every device knows of all of them -/

abbrev CX : Type := Bool × Fin 4 × Fin 2
abbrev CI : Type := Option (Bool ⊕ CX)
abbrev kcell (x : Dev nD × CI) : GSem nD τ sig := match x.2 with
  | none => barCell x.1 | some (.inl b) => crCell x.1 b | some (.inr y) => dcell x.1 y.1 y.2.1 y.2.2
def keys : Finset Key := Finset.univ ×ˢ (Finset.univ ×ˢ Finset.range 6)

def L (g : GSem nD τ sig) : Finset ℕ := if g.1.2 = .tc then Finset.range 30 else ∅
def lv (_ : GSem nD τ sig) (ι : ℕ) : ℕ := ι

theorem big_elim {I : Type} [DecidableEq I] {s : Finset I} {i : I} (h : i ∈ s) {Φ : I → sProp 𝕄} : (bigSep s Φ : sProp 𝕄) ⊢ Φ i :=
  bigSep_elim h

section Recs
variable (X : Dev nD → Vec F S512x1024 .bf16) (A : Dev nD → ℕ → Vec F S512x1024 .bf16)
variable (K : Dev nD × CI → ℕ) (KS : Key → ℕ)

def recs : sProp 𝕄 :=
  iprop((bigSep Finset.univ fun x : Dev nD × CI => cellInv ER (meshRd (F := F) X A) (K x) (kcell x))
    ∗ (bigSep Finset.univ fun x : Dev nD × CI => reached (ER (F := F)) (kcell x) 0)
    ∗ (bigSep keys fun k => Release.slotInv (ES (F := F)) (KS k) k (slotS (F := F) k))
    ∗ levAts L lv)
instance recs_persistent : BI.Persistent (recs X A K KS) := by unfold recs; infer_instance

theorem recs_inv (x : Dev nD × CI) : recs X A K KS ⊢ cellInv ER (meshRd (F := F) X A) (K x) (kcell x) := by
  unfold recs
  iintro ⟨#H, -⟩
  iapply (big_elim (Φ := fun x : Dev nD × CI => cellInv ER (meshRd (F := F) X A) (K x) (kcell x)) (Finset.mem_univ x)); iexact H
theorem recs_reached (x : Dev nD × CI) : recs X A K KS ⊢ reached (ER (F := F)) (kcell x) 0 := by
  unfold recs
  iintro ⟨-, #H, -⟩
  iapply (big_elim (Φ := fun x : Dev nD × CI => reached (ER (F := F)) (kcell x) 0) (Finset.mem_univ x)); iexact H
theorem recs_slot (k : Key) (hk : k ∈ keys) : recs X A K KS ⊢ Release.slotInv (ES (F := F)) (KS k) k (slotS (F := F) k) := by
  unfold recs
  iintro ⟨-, -, #H, -⟩
  iapply (big_elim (Φ := fun k => Release.slotInv (ES (F := F)) (KS k) k (slotS (F := F) k)) hk); iexact H
theorem recs_lev : recs X A K KS ⊢ levAts L lv := by
  unfold recs
  iintro ⟨-, -, -, #H⟩
  iexact H
end Recs

/-! ## What is owed, and that a wait is allowed -/

/-- Everything owed has a label above `n`. -/
def Above (n : ℕ) (O : CellTallies nD τ sig ℕ) : Prop := ∀ g κ, 0 < O g κ → n < κ ∧ κ < 30 ∧ g.1.2 = .tc
theorem Above.zero (n : ℕ) : Above n 0 := fun g κ h => absurd h (Nat.lt_irrefl 0)
theorem Above.add {n : ℕ} {O O' : CellTallies nD τ sig ℕ} (h : Above n O) (h' : Above n O') : Above n (O + O') := fun g κ hp => by
  rcases Nat.eq_zero_or_pos (O g κ) with h0 | h0
  · rcases Nat.eq_zero_or_pos (O' g κ) with h1 | h1
    · exact absurd hp (by show ¬ 0 < O g κ + O' g κ; omega)
    · exact h' g κ h1
  · exact h g κ h0
theorem Above.tallyAt {n : ℕ} (c : Dev nD) (sm : SemLoc sig) (ι k : ℕ) (h : n < ι) (h' : ι < 30) : Above n (tallyAt ((c : Thread nD τ), sm) ι k) := fun g κ hp => by
  rw [tallyAt_apply] at hp
  split at hp
  · rename_i e; obtain ⟨rfl, rfl⟩ := e; exact ⟨h, h', rfl⟩
  · exact absurd hp (Nat.lt_irrefl 0)
theorem Above.sum {n : ℕ} {I : Type} (S : Finset I) (f : I → CellTallies nD τ sig ℕ) (h : ∀ i ∈ S, Above n (f i)) : Above n (∑ i ∈ S, f i) := by
  classical
  induction S using Finset.induction_on with
  | empty => exact Above.zero n
  | insert a s ha ih =>
    rw [Finset.sum_insert ha]
    exact (h a (Finset.mem_insert_self a s)).add (ih fun i hi => h i (Finset.mem_insert_of_mem hi))
theorem Above.mono {n m : ℕ} {O : CellTallies nD τ sig ℕ} (h : Above n O) (hm : m ≤ n) : Above m O := fun g κ hp =>
  ⟨lt_of_le_of_lt hm (h g κ hp).1, (h g κ hp).2⟩

theorem mayWait (c : Dev nD) (sm : SemLoc sig) (ι : ℕ) (hι : ι < 30) (O : CellTallies nD τ sig ℕ) (h : Above ι O) :
    (levAts L lv : sProp 𝕄) ⊢ MayWait (c : Thread nD τ) sm ι O :=
  MayOwe.of_cut ι (fun p hp => by rw [Finset.mem_singleton] at hp; subst hp; exact Finset.mem_range.mpr hι)
    (fun g κ hg => by unfold L; rw [if_pos (h g κ hg).2.2]; exact Finset.mem_range.mpr (h g κ hg).2.1)
    (fun p hp => by rw [Finset.mem_singleton] at hp; subst hp; exact le_refl _)
    (fun g κ hg => (h g κ hg).1)

theorem recs_mayWait (X : Dev nD → Vec F S512x1024 .bf16) (A : Dev nD → ℕ → Vec F S512x1024 .bf16) (K : Dev nD × CI → ℕ) (KS : Key → ℕ)
    (c : Dev nD) (sm : SemLoc sig) (ι : ℕ) (hι : ι < 30) (O : CellTallies nD τ sig ℕ) (h : Above ι O) :
    recs X A K KS ⊢ MayWait (c : Thread nD τ) sm ι O := by
  unfold recs
  iintro ⟨-, -, -, #H⟩
  iapply (mayWait c sm ι hι O h); iexact H

def owesE (c : Dev nD) (O : CellTallies nD τ sig ℕ) : sProp 𝕄 := iprop(∃ W, owes (c : Thread nD τ) O W)

/-! ## Positions -/

/-- The slot and the round of step `h` at each use of a semaphore. -/
def ks (k : Fin 4) (h : ℕ) : Fin 2 := match k with | 0 => sl (h + 1) | 1 => sl h | 2 => sl (h + 1) | 3 => sl h
def kr (k : Fin 4) (h : ℕ) : ℕ := match k with | 0 => (h + 1) / 4 | 1 => h / 4 | 2 => h / 4 | 3 => (h - 1) / 4
def kl (k : Fin 4) (h : ℕ) : Bool := match k with | 0 => h ≤ 13 | 1 => h ≤ 14 | 2 => h ≤ 14 | 3 => 1 ≤ h

/-- How many rounds of a cell are over before step `h`, by parity of its owner's steps. -/
def P (p : ℕ) (k : Fin 4) (s : Fin 2) : ℕ → ℕ
  | 0 => if k = 0 ∧ p = 1 ∧ s = 0 then 1 else 0
  | h + 1 => P p k s h + if h % 2 = p ∧ kl k h = true ∧ s = ks k h then 1 else 0

theorem P_kr (k : Fin 4) (h : ℕ) (hl : kl k h = true) (hh : h < 16) : P (h % 2) k (ks k h) h = kr k h := by
  have : ∀ h : Fin 16, ∀ k : Fin 4, kl k h.val = true → P (h.val % 2) k (ks k h.val) h.val = kr k h.val := by decide
  exact this ⟨h, hh⟩ k hl
theorem live_kr (k : Fin 4) (h : ℕ) (hl : kl k h = true) (hh : h < 16) : live (h % 2) k (ks k h).val (kr k h) := by
  have : ∀ h : Fin 16, ∀ k : Fin 4, kl k h.val = true → live (h.val % 2) k (ks k h.val).val (kr k h.val) := by decide
  exact this ⟨h, hh⟩ k hl

/-- The owner's position on a cell, with that its round is reached. -/
def at' (g : GSem nD τ sig) (r : ℕ) : sProp 𝕄 := iprop(atPos (ER (F := F)) g r ∅ 0 ∗ reached (ER (F := F)) g r)

/-- The positions of a device's receive and send cells, given which step each use is before. -/
def pos (c : Dev nD) (hs : Fin 4 → ℕ) : sProp 𝕄 :=
  bigSep Finset.univ fun x : CX => at' (F := F) (dcell c x.1 x.2.1 x.2.2) (P (par x.1 c) x.2.1 x.2.2 (hs x.2.1))

theorem pos_take (c : Dev nD) (hs : Fin 4 → ℕ) (k : Fin 4) (h : ℕ) (hk : hs k = h) (hl : kl k h = true) (hh : h < 16) :
    pos (F := F) c hs ⊢ iprop(at' (F := F) (dcell c (rg c h) k (ks k h)) (kr k h)
      ∗ (at' (F := F) (dcell c (rg c h) k (ks k h)) (kr k h + 1) -∗ pos c (Function.update hs k (h + 1)))) := by
  unfold pos
  rw [bigSep_univ_at _ ((rg c h, k, ks k h) : CX)]
  iintro ⟨H, Hr⟩
  isplitl [H]
  · rw [hk, par_rg, P_kr k h hl hh]; iexact H
  iintro H
  rw [bigSep_univ_at (fun x : CX => at' (F := F) (dcell c x.1 x.2.1 x.2.2) (P (par x.1 c) x.2.1 x.2.2 (Function.update hs k (h + 1) x.2.1))) ((rg c h, k, ks k h) : CX)]
  isplitl [H]
  · rw [Function.update_self, par_rg]
    show _ ⊢ at' _ (P (h % 2) k (ks k h) h + if h % 2 = h % 2 ∧ kl k h = true ∧ ks k h = ks k h then 1 else 0)
    rw [if_pos ⟨rfl, hl, rfl⟩, P_kr k h hl hh]
  · have hcong : bigSep (Finset.univ.erase ((rg c h, k, ks k h) : CX)) (fun x : CX => at' (F := F) (dcell c x.1 x.2.1 x.2.2) (P (par x.1 c) x.2.1 x.2.2 (hs x.2.1)))
        = bigSep (Finset.univ.erase ((rg c h, k, ks k h) : CX)) (fun x : CX => at' (F := F) (dcell c x.1 x.2.1 x.2.2) (P (par x.1 c) x.2.1 x.2.2 (Function.update hs k (h + 1) x.2.1))) := by
      refine bigSep_congr fun x hx => ?_
      rcases x with ⟨b', k', s'⟩
      have hne := Finset.ne_of_mem_erase hx
      dsimp only
      by_cases hkk : k' = k
      · subst hkk
        rw [Function.update_self, hk]
        show _ = at' _ (P (par b' c) k' s' h + if h % 2 = par b' c ∧ kl k' h = true ∧ s' = ks k' h then 1 else 0)
        rw [if_neg, Nat.add_zero]
        rintro ⟨h1, -, h3⟩
        exact hne (by rw [(rg_eq_iff b' c h).mpr h1, h3])
      · rw [Function.update_of_ne hkk]
    rw [← hcong]; iexact Hr

theorem pos_skip (c : Dev nD) (hs : Fin 4 → ℕ) (k : Fin 4) (h : ℕ) (hk : hs k = h) (hl : kl k h = false) :
    pos (F := F) c hs = pos c (Function.update hs k (h + 1)) := by
  unfold pos
  refine bigSep_congr fun x _ => ?_
  rcases x with ⟨b', k', s'⟩
  dsimp only
  by_cases hkk : k' = k
  · subst hkk
    rw [Function.update_self, hk]
    show _ = at' _ (P (par b' c) k' s' h + if h % 2 = par b' c ∧ kl k' h = true ∧ s' = ks k' h then 1 else 0)
    rw [if_neg (by rw [hl]; simp), Nat.add_zero]
  · rw [Function.update_of_ne hkk]

theorem pos_reached (c : Dev nD) (hs : Fin 4 → ℕ) (k : Fin 4) (h : ℕ) (hk : hs k = h) (hl : kl k h = true) (hh : h < 16) :
    pos (F := F) c hs ⊢ iprop(reached (ER (F := F)) (dcell c (rg c h) k (ks k h)) (kr k h) ∗ pos c hs) := by
  unfold pos
  rw [bigSep_univ_at _ ((rg c h, k, ks k h) : CX)]
  dsimp only
  rw [hk, par_rg, P_kr k h hl hh]
  unfold at'
  iintro ⟨⟨H, #Hr⟩, Hs⟩
  isplitr; · iexact Hr
  isplitl [H]
  · isplitl [H]; · iexact H
    iexact Hr
  iexact Hs

end Cert.KernelIdeal.Mesh
-- ==== Proof.OpsI.lean ====
/- The waits, the transfers and the signals of a step of the rings, each at a symbolic ring and step. -/
module

public import proofs.«01_k».proof.Proof.StepI

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → Vec F S512x1024 .bf16) (A : Dev nD → ℕ → Vec F S512x1024 .bf16)
variable (K : Dev nD × CI → ℕ) (KS : Key → ℕ)

/-! ## A wait and a transfer at any cell -/

theorem wp_dwait0 {α : Type} {Q : α → sProp 𝕄} (c : Dev nD) (b : Bool) (k : Fin 4) (s : Fin 2) (r : ℕ) (hl : live (par b c) k s.val r)
    (ι : ℕ) (hι : ι < 30) (O : CellTallies nD τ sig ℕ) (ha : Above ι O)
    (qq : DmaSem sig) (hq : qq = dsem b k s) (src dst : Memref sig .tc .vmem S512x1024 .bf16)
    {h1 : src.view.WordExact} {h2 : dst.view.WordExact} {kk : PUnit.{1} → Prog (TpuEff nD τ sig (Elt F) Λ₀ .tc) α} :
    iprop(recs X A K KS ∗ cred (tallyAt (dcell c b k s) ι N) ∗ owesE c O ∗ atPos (ER (F := F)) (dcell c b k s) r ∅ 0)
      ⊢ iprop(((owesE c O ∗ atPos (ER (F := F)) (dcell c b k s) (r + 1) ∅ 0 ∗ reached (ER (F := F)) (dcell c b k s) (r + 1)
            ∗ payD X A c b k s r) -∗ wp frame (wpE (defs₀ (F := F)) 𝒱₀ c none) Set.univ (kk ⟨⟩) Q)
        -∗ wp frame (wpE (defs₀ (F := F)) 𝒱₀ c none) Set.univ (.op (.waitDma2 qq src dst h1 h2) kk) Q) := by
  subst hq
  unfold owesE
  iintro ⟨#Hrec, Hc, ⟨%W, HO⟩, Hat⟩ Hk
  ihave #Hinv := (recs_inv X A K KS (c, some (.inr (b, k, s)))) $$ Hrec
  have hamt : dst.view.dmaCredit = N := credit_of dst
  iapply (Rounds.wp_wait_rest_token 𝒱₀ ER (meshRd (F := F) X A) (c : Thread nD τ) none (κ := K (c, some (.inr (b, k, s))))
      (wpE_waitDma2_eq 𝒱₀ (c : Thread nD τ) none Set.univ) (Set.mem_univ _) ι (O := O) (W := W) (R := r) (m := 0) (T := ∅)
      (by rw [Nat.zero_add, hamt]; exact (expect_d X A c b k s r hl).symm)) $$ [Hc HO Hat]
  · isplitr; · iexact Hinv
    isplitl [Hc]; · rw [hamt]; iexact Hc
    isplitl [HO]; · iexact HO
    isplitr; · iapply (recs_mayWait X A K KS c _ ι hι O ha); iexact Hrec
    iexact Hat
  iintro ⟨HO, Hat, Hr, Hpay⟩
  iapply Hk
  isplitl [HO]; · iexists _; iexact HO
  isplitl [Hat]; · iexact Hat
  isplitl [Hr]; · iexact Hr
  have he : bigSep ((meshRd (F := F) X A).duties (dcell c b k s) r \ ∅) (fun d => (meshRd (F := F) X A).payload (dcell c b k s) r d)
      = payD X A c b k s r := by
    rw [duties_d X A c b k s r hl, Finset.sdiff_empty, bigSep_singleton, payload_d]
  ihave Hp := (Entails.of_eq he) $$ Hpay
  iexact Hp

theorem wp_dsend0 {α : Type} {Q : α → sProp 𝕄} (c n : Dev nD) (b : Bool) (kS kR : Fin 4) (sS sR : Fin 2) (rS rR : ℕ)
    (hlS : live (par b c) kS sS.val rS) (hlR : live (par b n) kR sR.val rR)
    (ι : ℕ) (O O' : CellTallies nD τ sig ℕ) (hO : O' = O + tallyAt (dcell n b kR sR) ι N)
    (src : Memref sig .tc .vmem S512x1024 .bf16) (q : PosShare TreeShare) (V : Vec F S512x1024 .bf16)
    (M : Memref sig .tc .vmem S2x512x1024 .bf16) (s : Fin 2)
    (hp1 : (owns (c : Thread nD τ) src q V : sProp 𝕄) ⊢ payD X A c b kS sS rS)
    (hp2 : (owns (n : Thread nD τ) (slotM M s) fullShare V : sProp 𝕄) ⊢ payD X A n b kR sR rR)
    (n' : Dev nD) (hn : n' = n) (src' dst' : Memref sig .tc .vmem S512x1024 .bf16) (hs' : src' = src) (hd' : dst' = slotM M s)
    (qS qR : DmaSem sig) (hqS : qS = dsem b kS sS) (hqR : qR = dsem b kR sR)
    {hsc : dst'.view.ref.isScScratch = false} {h1 : src'.view.WordExact} {h2 : dst'.view.WordExact}
    {h3 : DmaTarget.Typed .vmem (.dma qR) (.remote (Dev.tc n' : Thread nD τ) dst' (.dma qS) hsc)}
    {kk : PUnit.{1} → Prog (TpuEff nD τ sig (Elt F) Λ₀ .tc) α} :
    iprop(recs X A K KS ∗ owns (c : Thread nD τ) src q V ∗ anyS n M s ∗ owesE c O'
        ∗ dutyTok (ER (F := F)) (dcell c b kS sS) rS 0 ∗ reached (ER (F := F)) (dcell c b kS sS) rS
        ∗ dutyTok (ER (F := F)) (dcell n b kR sR) rR 0 ∗ reached (ER (F := F)) (dcell n b kR sR) rR)
      ⊢ iprop(((cred (tallyAt (dcell c b kS sS) 0 N) ∗ owesE c O) -∗ wp frame (wpE (defs₀ (F := F)) 𝒱₀ c none) Set.univ (kk ⟨⟩) Q)
        -∗ wp frame (wpE (defs₀ (F := F)) 𝒱₀ c none) Set.univ
            (.op (.enqueueDma src' (.remote (Dev.tc n' : Thread nD τ) dst' (.dma qS) hsc) (.dma qR) h1 h2 h3) kk) Q) := by
  subst hn hs' hd' hqS hqR
  unfold owns anyS Release.slot owesE
  iintro ⟨#Hrec, ⟨%fs, %hfs, Hsrc⟩, ⟨%fd, Hdst⟩, ⟨%W, HO⟩, Ht1, #Hr1, Ht2, #Hr2⟩ Hk
  ihave #Hinv1 := (recs_inv X A K KS (c, some (.inr (b, kS, sS)))) $$ Hrec
  ihave #Hinv2 := (recs_inv X A K KS (n', some (.inr (b, kR, sR)))) $$ Hrec
  iapply (Rounds.wp_send_pointsTo 𝒱₀ ER (meshRd (F := F) X A) (c : Thread nD τ) none (c' := (n' : Thread nD τ)) (κ₁ := K (c, some (.inr (b, kS, sS)))) (κ₂ := K (n', some (.inr (b, kR, sR))))
    (sem := .dma (dsem b kR sR)) (sS := .dma (dsem b kS sS)) (src := src') (dst := slotM M s) (q := q) (r₁ := rS) (r₂ := rR) (d₁ := 0) (d₂ := 0) (fs := fs) (fd := fd)
    (by rw [duties_d X A c b kS sS rS hlS]; exact Finset.mem_singleton_self _)
    (by rw [duties_d X A n' b kR sR rR hlR]; exact Finset.mem_singleton_self _)
    ι 0 N (credit_of (slotM M s)) (amount_d X A c b kS sS rS 0) (amount_d X A n' b kR sR rR 0) O hO (W := W)
    (by
      rw [payload_d]
      refine BIBase.Entails.trans ?_ hp1
      unfold owns
      iintro H
      iexists fs; isplitr; · ipureintro; exact hfs
      iexact H)
    (by
      rw [payload_d]
      refine BIBase.Entails.trans ?_ hp2
      unfold owns
      iintro H
      iexists (slotM M s).view.write (Elt F) fd (src'.view.read (Elt F) fs) Finset.univ
      isplitr
      · ipureintro
        exact (View.read_write_univ _ _).trans hfs
      iexact H)) $$ [Hsrc Hdst HO Ht1 Ht2]
  · isplitr; · iexact Hinv1
    isplitr; · iexact Hinv2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ## What the cells of step `h` carry -/

/-- The payload of the round of step `h` at a use of a semaphore. -/
abbrev pay (k : Fin 4) (c : Dev nD) (h : ℕ) : sProp 𝕄 := payD X A c (rg c h) k (ks k h) (kr k h)

theorem pay0 (c : Dev nD) (h : ℕ) : pay X A 0 c h = owns (c : Thread nD τ) (slotM (xM (rg c h)) (sl h)) half (X (org c h)) := by
  have e : gsx (par (rg c h) c) (ks 0 h).val (kr 0 h) = h + 1 := by
    rw [par_rg]; show 4 * ((h + 1) / 4) + 2 * ((h + 1) / 2 % 2) + (1 - h % 2) = h + 1; omega
  show (if gsx (par (rg c h) c) (ks 0 h).val (kr 0 h) = 0 then owns (c : Thread nD τ) xoM fullShare (X c)
      else owns (c : Thread nD τ) (slotM (xM (rg c h)) (sl (gsx (par (rg c h) c) (ks 0 h).val (kr 0 h) - 1))) half (X (org c (gsx (par (rg c h) c) (ks 0 h).val (kr 0 h) - 1)))) = _
  rw [e]; exact if_neg (by omega)
theorem pay1 (c : Dev nD) (h : ℕ) : pay X A 1 c h = owns (c : Thread nD τ) (slotM (xM (rg c h)) (sl h)) fullShare (X (org c h)) := by
  have e : hx (par (rg c h) c) (ks 1 h).val (kr 1 h) = h := by
    rw [par_rg]; show 4 * (h / 4) + 2 * (h / 2 % 2) + h % 2 = h; omega
  show owns (c : Thread nD τ) (slotM (xM (rg c h)) (ks 1 h)) fullShare (X (org c (hx (par (rg c h) c) (ks 1 h).val (kr 1 h)))) = _
  rw [e]; rfl
theorem pay2 (c : Dev nD) (h : ℕ) : pay X A 2 c h = owns (c : Thread nD τ) (slotM (aM (rg c h)) (sl h)) fullShare (A (org c h) (h + 1)) := by
  have e : hsa (par (rg c h) c) (ks 2 h).val (kr 2 h) = h := by
    rw [par_rg]; show (if h % 2 = 0 then 4 * (h / 4) + 2 * ((h + 1) / 2 % 2) else if (h + 1) / 2 % 2 = 1 then 4 * (h / 4) + 1 else 4 * (h / 4) + 3) = h
    (repeat' split) <;> omega
  show owns (c : Thread nD τ) (slotM (aM (rg c h)) (sl (hsa (par (rg c h) c) (ks 2 h).val (kr 2 h)))) fullShare
      (A (org c (hsa (par (rg c h) c) (ks 2 h).val (kr 2 h))) (hsa (par (rg c h) c) (ks 2 h).val (kr 2 h) + 1)) = _
  rw [e]
theorem pay3 (c : Dev nD) (h : ℕ) (hh : 1 ≤ h) : pay X A 3 c h = owns (c : Thread nD τ) (slotM (aM (rg c h)) (sl h)) fullShare (A (org c h) h) := by
  have e : ha (par (rg c h) c) (ks 3 h).val (kr 3 h) = h := by
    rw [par_rg]; show (if h % 2 = 1 then 4 * ((h - 1) / 4) + 2 * (h / 2 % 2) + 1 else if h / 2 % 2 = 1 then 4 * ((h - 1) / 4) + 2 else 4 * ((h - 1) / 4) + 4) = h
    (repeat' split) <;> omega
  show owns (c : Thread nD τ) (slotM (aM (rg c h)) (ks 3 h)) fullShare
      (A (org c (ha (par (rg c h) c) (ks 3 h).val (kr 3 h))) (ha (par (rg c h) c) (ks 3 h).val (kr 3 h))) = _
  rw [e]; rfl

/-- Two halves of a buffer of one value are the whole of it. -/
theorem owns_halves (c : Dev nD) (m : Memref sig .tc .vmem S512x1024 .bf16) (V : Vec F S512x1024 .bf16) :
    iprop(owns (c : Thread nD τ) m half V ∗ owns (c : Thread nD τ) m half' V) ⊢ (owns (c : Thread nD τ) m fullShare V : sProp 𝕄) := by
  unfold owns
  iintro ⟨⟨%f, %hf, H1⟩, ⟨%g, %hg, H2⟩⟩
  icombine H1 H2 as H
  ihave %heq := pointsTo_agree $$ H
  iexists f
  isplitr; · ipureintro; exact hf
  rw [pointsTo_congr (fun i hi => ((heq i (Finset.mem_inter.mpr ⟨hi, hi⟩)).1).symm)]
  iapply (pointsTo_share (PosShare.mem_left_op_right fullShare)).2
  iexact H
theorem owns_split (c : Dev nD) (m : Memref sig .tc .vmem S512x1024 .bf16) (V : Vec F S512x1024 .bf16) :
    (owns (c : Thread nD τ) m fullShare V : sProp 𝕄) ⊢ iprop(owns (c : Thread nD τ) m half V ∗ owns (c : Thread nD τ) m half' V) := by
  unfold owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

/-! ## What is owed from a step on -/

abbrev nx (c : Dev nD) (h : ℕ) : Dev nD := outN (rg c h) c
abbrev pv (c : Dev nD) (h : ℕ) : Dev nD := outN (!(rg c h)) c

def ocr (c : Dev nD) (h : ℕ) : CellTallies nD τ sig ℕ := if h ≤ 11 then tallyAt (crCell (pv c h) (rg c h)) (h + 5) 1 else 0
def oa (c : Dev nD) (h : ℕ) : CellTallies nD τ sig ℕ := tallyAt (dcell (nx c h) (rg c h) 3 (sl (h + 1))) (h + 3) N
def ox (c : Dev nD) (h : ℕ) : CellTallies nD τ sig ℕ := if h ≤ 13 then tallyAt (dcell (nx c h) (rg c h) 1 (sl (h + 1))) (h + 3) N else 0
def Owe (c : Dev nD) (h : ℕ) : CellTallies nD τ sig ℕ := ∑ h' ∈ Finset.Ico h 15, (ocr c h' + oa c h' + ox c h')

theorem ico_succ {h n : ℕ} (hh : h < n) : Finset.Ico h n = insert h (Finset.Ico (h + 1) n) := by
  ext x; rw [Finset.mem_insert, Finset.mem_Ico, Finset.mem_Ico]; omega
theorem Owe_step (c : Dev nD) (h : ℕ) (hh : h < 15) : Owe c h = Owe c (h + 1) + ocr c h + oa c h + ox c h := by
  unfold Owe
  rw [ico_succ hh, Finset.sum_insert (by rw [Finset.mem_Ico]; omega), add_comm, ← add_assoc, ← add_assoc]
theorem above_ocr (c : Dev nD) (h : ℕ) (hh : h < 15) : Above (h + 2) (ocr c h) := by
  unfold ocr; split
  · exact Above.tallyAt _ _ _ _ (by omega) (by omega)
  · exact Above.zero _
theorem above_oa (c : Dev nD) (h : ℕ) (hh : h < 15) : Above (h + 2) (oa c h) := Above.tallyAt _ _ _ _ (by omega) (by omega)
theorem above_ox (c : Dev nD) (h : ℕ) (hh : h < 15) : Above (h + 2) (ox c h) := by
  unfold ox; split
  · exact Above.tallyAt _ _ _ _ (by omega) (by omega)
  · exact Above.zero _
theorem above_Owe (c : Dev nD) (h : ℕ) : Above (h + 2) (Owe c h) := by
  unfold Owe
  refine Above.sum _ _ fun i hi => ?_
  rw [Finset.mem_Ico] at hi
  exact (((above_ocr c i hi.2).add (above_oa c i hi.2)).add (above_ox c i hi.2)).mono (by omega)

/-! ## Waits and transfers of a step -/

section Step
variable (c : Dev nD) (h : ℕ)

theorem wp_dwait {α : Type} {Q : α → sProp 𝕄} (k : Fin 4) (hl : kl k h = true) (hh : h < 16) (ι : ℕ) (hι : ι < 30) (O : CellTallies nD τ sig ℕ) (hO : Above ι O)
    (hs : Fin 4 → ℕ) (hk : hs k = h)
    (qq : DmaSem sig) (hq : qq = dsem (rg c h) k (ks k h)) (src dst : Memref sig .tc .vmem S512x1024 .bf16)
    {h1 : src.view.WordExact} {h2 : dst.view.WordExact} {kk : PUnit.{1} → Prog (TpuEff nD τ sig (Elt F) Λ₀ .tc) α} :
    iprop(recs X A K KS ∗ cred (tallyAt (dcell c (rg c h) k (ks k h)) ι N) ∗ owesE c O ∗ pos c hs)
      ⊢ iprop(((owesE c O ∗ pos c (Function.update hs k (h + 1)) ∗ reached (ER (F := F)) (dcell c (rg c h) k (ks k h)) (kr k h + 1)
            ∗ pay X A k c h) -∗ wp frame (wpE (defs₀ (F := F)) 𝒱₀ c none) Set.univ (kk ⟨⟩) Q)
        -∗ wp frame (wpE (defs₀ (F := F)) 𝒱₀ c none) Set.univ (.op (.waitDma2 qq src dst h1 h2) kk) Q) := by
  iintro ⟨#Hrec, Hc, HO, Hp⟩ Hk
  ihave Hp' := (pos_take c hs k h hk hl hh) $$ Hp
  unfold at'
  icases Hp' with ⟨⟨Hat, -⟩, Hp⟩
  iapply (wp_dwait0 X A K KS c (rg c h) k (ks k h) (kr k h) (by rw [par_rg]; exact live_kr k h hl hh) ι hι O hO qq hq src dst) $$ [Hc HO Hat]
  · isplitr; · iexact Hrec
    isplitl [Hc]; · iexact Hc
    isplitl [HO]; · iexact HO
    iexact Hat
  iintro ⟨HO, Hat, #Hr, Hpay⟩
  iapply Hk
  isplitl [HO]; · iexact HO
  isplitl [Hp Hat]
  · iapply Hp
    isplitl [Hat]; · iexact Hat
    iexact Hr
  isplitr; · iexact Hr
  iexact Hpay

theorem wp_dsend {α : Type} {Q : α → sProp 𝕄} (kS kR : Fin 4) (hlS : kl kS h = true) (hlR : kl kR (h + 1) = true) (hh : h < 15)
    (ι : ℕ) (O O' : CellTallies nD τ sig ℕ) (hO : O' = O + tallyAt (dcell (nx c h) (rg c h) kR (ks kR (h + 1))) ι N)
    (src : Memref sig .tc .vmem S512x1024 .bf16) (q : PosShare TreeShare) (V : Vec F S512x1024 .bf16)
    (M : Memref sig .tc .vmem S2x512x1024 .bf16)
    (hp1 : pay X A kS c h = owns (c : Thread nD τ) src q V)
    (hp2 : pay X A kR (nx c h) (h + 1) = owns ((nx c h : Dev nD) : Thread nD τ) (slotM M (sl (h + 1))) fullShare V)
    (n' : Dev nD) (hn : n' = nx c h) (src' dst' : Memref sig .tc .vmem S512x1024 .bf16) (hs' : src' = src) (hd' : dst' = slotM M (sl (h + 1)))
    (qS qR : DmaSem sig) (hqS : qS = dsem (rg c h) kS (ks kS h)) (hqR : qR = dsem (rg c h) kR (ks kR (h + 1)))
    {hsc : dst'.view.ref.isScScratch = false} {h1 : src'.view.WordExact} {h2 : dst'.view.WordExact}
    {h3 : DmaTarget.Typed .vmem (.dma qR) (.remote (Dev.tc n' : Thread nD τ) dst' (.dma qS) hsc)}
    {kk : PUnit.{1} → Prog (TpuEff nD τ sig (Elt F) Λ₀ .tc) α} :
    iprop(recs X A K KS ∗ owns (c : Thread nD τ) src q V ∗ anyS (nx c h) M (sl (h + 1)) ∗ owesE c O'
        ∗ dutyTok (ER (F := F)) (dcell c (rg c h) kS (ks kS h)) (kr kS h) 0 ∗ reached (ER (F := F)) (dcell c (rg c h) kS (ks kS h)) (kr kS h)
        ∗ dutyTok (ER (F := F)) (dcell (nx c h) (rg c h) kR (ks kR (h + 1))) (kr kR (h + 1)) 0
        ∗ reached (ER (F := F)) (dcell (nx c h) (rg c h) kR (ks kR (h + 1))) (kr kR (h + 1)))
      ⊢ iprop(((cred (tallyAt (dcell c (rg c h) kS (ks kS h)) 0 N) ∗ owesE c O) -∗ wp frame (wpE (defs₀ (F := F)) 𝒱₀ c none) Set.univ (kk ⟨⟩) Q)
        -∗ wp frame (wpE (defs₀ (F := F)) 𝒱₀ c none) Set.univ
            (.op (.enqueueDma src' (.remote (Dev.tc n' : Thread nD τ) dst' (.dma qS) hsc) (.dma qR) h1 h2 h3) kk) Q) := by
  refine wp_dsend0 X A K KS c (nx c h) (rg c h) kS kR (ks kS h) (ks kR (h + 1)) (kr kS h) (kr kR (h + 1))
    (by rw [par_rg]; exact live_kr kS h hlS (by omega))
    (by rw [← rg_outN (rg c h) c h, par_rg]; exact live_kr kR (h + 1) hlR (by omega)) ι O O' hO src q V M (sl (h + 1))
    (Entails.of_eq hp1.symm) ?_ n' hn src' dst' hs' hd' qS qR hqS hqR
  refine Entails.of_eq (hp2.symm.trans ?_)
  show payD X A (nx c h) (rg (nx c h) (h + 1)) kR (ks kR (h + 1)) (kr kR (h + 1)) = _
  rw [rg_outN (rg c h) c h]

end Step

end Cert.KernelIdeal.Mesh
-- ==== Proof.CondI.lean ====
/- The operations of a step of the rings that only some steps do. -/
module

public import proofs.«01_k».proof.Proof.OpsI

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → Vec F S512x1024 .bf16) (A : Dev nD → ℕ → Vec F S512x1024 .bf16)
variable (K : Dev nD × CI → ℕ) (KS : Key → ℕ)

/-! ## What a step uses up and what it leaves -/

/-- How many credits a device has waited for on ring `b` before step `h`. -/
def cw (b : Bool) (c : Dev nD) (h : ℕ) : ℕ := (h + par b c - 3) / 2
/-- How often it has handed a slot back on ring `b` before step `h`. -/
def fc (b : Bool) (c : Dev nD) (h : ℕ) : ℕ := min 6 ((h + 1 - par b c) / 2)

theorem cw_at (c : Dev nD) (h : ℕ) : cw (rg c h) c h = (h - 3) / 2 := by unfold cw; rw [par_rg]; omega
theorem cw_next (c : Dev nD) (h : ℕ) (hh : 3 ≤ h) : cw (rg c h) c (h + 1) = (h - 3) / 2 + 1 := by unfold cw; rw [par_rg]; omega
theorem cw_low (c : Dev nD) (h : ℕ) (hh : h < 3) : cw (rg c h) c (h + 1) = cw (rg c h) c h := by unfold cw; rw [par_rg]; omega
theorem par_not (b : Bool) (c : Dev nD) : par (!b) c = 1 - par b c := by revert b c; decide
theorem cw_other (c : Dev nD) (h : ℕ) : cw (!(rg c h)) c (h + 1) = cw (!(rg c h)) c h := by unfold cw; rw [par_not, par_rg]; omega
theorem fc_at (c : Dev nD) (h : ℕ) (hh : h ≤ 11) : fc (rg c h) c h = h / 2 := by unfold fc; rw [par_rg]; omega
theorem fc_next (c : Dev nD) (h : ℕ) (hh : h ≤ 11) : fc (rg c h) c (h + 1) = h / 2 + 1 := by unfold fc; rw [par_rg]; omega
theorem fc_high (c : Dev nD) (h : ℕ) (hh : 11 < h) : fc (rg c h) c (h + 1) = fc (rg c h) c h := by unfold fc; rw [par_rg]; omega
theorem fc_other (c : Dev nD) (h : ℕ) : fc (!(rg c h)) c (h + 1) = fc (!(rg c h)) c h := by unfold fc; rw [par_not, par_rg]; omega

/-- The owner's position on its credit cell of ring `b` once it has waited for `m` credits. -/
def crPos (c : Dev nD) (b : Bool) (m : ℕ) : sProp 𝕄 :=
  iprop(∃ T : Finset ℕ, ⌜T ⊆ Finset.range 6 ∧ m ≤ T.card⌝ ∗ atPos (ER (F := F)) (crCell c b) 0 T m
    ∗ bigSep T (fun d => facts (F := F) (outN b c) b (d + 1)))

def avail (c : Dev nD) (h : ℕ) : sProp 𝕄 :=
  if h < 3 then iprop(anyS (F := F) (nx c h) (xM (rg c h)) (sl (h + 1)) ∗ anyS (F := F) (nx c h) (aM (rg c h)) (sl (h + 1)))
  else iprop(Release.writeTok (ES (F := F)) (nx c h, rg c h, (h - 3) / 2) 1 ∗ cred (tallyAt (crCell c (rg c h)) (h + 2) 1))
def tgtX (c : Dev nD) (h : ℕ) : sProp 𝕄 := if h ≤ 13 then anyS (F := F) (nx c h) (xM (rg c h)) (sl (h + 1)) else iprop(emp)
def target (c : Dev nD) (h : ℕ) : sProp 𝕄 :=
  iprop(tgtX (F := F) c h ∗ anyS (F := F) (nx c h) (aM (rg c h)) (sl (h + 1))
    ∗ reached (ER (F := F)) (dcell (nx c h) (rg c h) 1 (sl (h + 1))) ((h + 1) / 4)
    ∗ reached (ER (F := F)) (dcell (nx c h) (rg c h) 3 (sl (h + 1))) (h / 4))
def tokX (c : Dev nD) (h : ℕ) : sProp 𝕄 :=
  if h ≤ 13 then iprop(dutyTok (ER (F := F)) (dcell c (rg c h) 0 (ks 0 h)) (kr 0 h) 0
    ∗ dutyTok (ER (F := F)) (dcell (nx c h) (rg c h) 1 (ks 1 (h + 1))) (kr 1 (h + 1)) 0) else iprop(emp)
def qx (h : ℕ) : PosShare TreeShare := if h ≤ 13 then half' else fullShare
def credX (c : Dev nD) (h : ℕ) : sProp 𝕄 := if h ≤ 13 then cred (tallyAt (dcell c (rg c h) 0 (ks 0 h)) 0 N) else iprop(emp)
def inA (c : Dev nD) (h : ℕ) : sProp 𝕄 :=
  if h = 0 then owns (c : Thread nD τ) (slotM (aM (rg c h)) (sl h)) fullShare (A (org c h) h)
  else cred (tallyAt (dcell c (rg c h) 3 (ks 3 h)) (h + 2) N)
def tokA (c : Dev nD) (h : ℕ) : sProp 𝕄 :=
  iprop(dutyTok (ER (F := F)) (dcell c (rg c h) 2 (ks 2 h)) (kr 2 h) 0
    ∗ dutyTok (ER (F := F)) (dcell (nx c h) (rg c h) 3 (ks 3 (h + 1))) (kr 3 (h + 1)) 0)
def tokCr (c : Dev nD) (h : ℕ) : sProp 𝕄 :=
  if h ≤ 11 then iprop(Release.readerAt (ES (F := F)) (c, rg c h, h / 2) 0 ∗ dutyTok (ER (F := F)) (crCell (pv c h) (rg c h)) 0 (h / 2)) else iprop(emp)
def keptAt (c : Dev nD) (h : ℕ) : sProp 𝕄 :=
  iprop((if h ≤ 10 then iprop(emp) else anyS (F := F) c (xM (rg c h)) (sl h)) ∗ (if h ≤ 11 then iprop(emp) else anyS (F := F) c (aM (rg c h)) (sl h)))

section Step
variable (c : Dev nD) (h : ℕ)

/-- What the credits promise of a neighbour's slot, of the duty that covers the step. -/
theorem fact_of_facts (hh : 3 ≤ h) (j : ℕ) (hj : (h - 3) / 2 ≤ j) :
    facts (F := F) (nx c h) (rg c h) (j + 1) ⊢ iprop(Release.released (ES (F := F)) (nx c h, rg c h, (h - 3) / 2) 1
      ∗ reached (ER (F := F)) (dcell (nx c h) (rg c h) 1 (sl (h + 1))) ((h + 1) / 4)
      ∗ reached (ER (F := F)) (dcell (nx c h) (rg c h) 3 (sl (h + 1))) (h / 4)) := by
  have e0 : par (rg c h) (nx c h) = 1 - h % 2 := by rw [par_outN, par_rg]
  have e1 : (⟨(h - 3) / 2 % 2, Nat.mod_lt _ (by decide)⟩ : Fin 2) = sl (h + 1) := by
    unfold sl; apply Fin.ext; show (h - 3) / 2 % 2 = (h + 1) / 2 % 2; omega
  have e2 : (2 * ((h - 3) / 2) + par (rg c h) (nx c h) + 4) / 4 = (h + 1) / 4 := by rw [e0]; omega
  have e3 : (2 * ((h - 3) / 2) + par (rg c h) (nx c h) + 3) / 4 = h / 4 := by rw [e0]; omega
  unfold facts
  refine (big_elim (Finset.mem_range.mpr (show (h - 3) / 2 < j + 1 by omega))).trans ?_
  unfold fact
  rw [e1, e2, e3]

theorem slotS_eq (hh : 3 ≤ h) : slotS (F := F) (nx c h, rg c h, (h - 3) / 2) = iprop(tgtX (F := F) c h ∗ anyS (F := F) (nx c h) (aM (rg c h)) (sl (h + 1))) := by
  have e0 : par (rg c h) (nx c h) = 1 - h % 2 := by rw [par_outN, par_rg]
  have e1 : (⟨(h - 3) / 2 % 2, Nat.mod_lt _ (by decide)⟩ : Fin 2) = sl (h + 1) := by
    unfold sl; apply Fin.ext; show (h - 3) / 2 % 2 = (h + 1) / 2 % 2; omega
  unfold slotS tgtX
  dsimp only
  rw [e1]
  by_cases h13 : h ≤ 13
  · rw [if_pos (by rw [e0]; omega), if_pos h13]
  · rw [if_neg (by rw [e0]; omega), if_neg h13]

theorem wp_credit {Q : PUnit.{1} → sProp 𝕄} (hh : h < 15) {cnd : Prop} [Decidable cnd] (hc : cnd ↔ 3 ≤ h)
    (p : cnd → Prog (TpuEff nD τ sig (Elt F) Λ₀ .tc) PUnit.{1})
    (hp : ∀ x, ∃ q m, p x = .op (.semWait q m) .ret ∧ q = (crS (rg c h)).sem ∧ m = ((1 : ℕ) : ℤ)) :
    iprop(recs X A K KS ∗ owesE c (Owe c h) ∗ crPos (F := F) c (rg c h) (cw (rg c h) c h) ∗ avail c h)
      ⊢ iprop(((owesE c (Owe c h) ∗ crPos (F := F) c (rg c h) (cw (rg c h) c (h + 1)) ∗ target c h) -∗ Q ⟨⟩)
        -∗ wp frame (wpE (defs₀ (F := F)) 𝒱₀ c none) Set.univ (dite cnd p fun _ => .ret ⟨⟩) Q) := by
  by_cases h3 : 3 ≤ h
  · rw [dif_pos (hc.mpr h3)]
    obtain ⟨q, m, e, rfl, rfl⟩ := hp (hc.mpr h3)
    rw [e, cw_at, cw_next c h h3]
    unfold avail crPos owesE
    rw [if_neg (by omega)]
    iintro ⟨#Hrec, ⟨%W, HO⟩, ⟨%T, %hT, Hat, #Hf⟩, Hw, Hc⟩ Hk
    ihave #Hinv := (recs_inv X A K KS (c, some (.inl (rg c h)))) $$ Hrec
    iapply (Rounds.wp_wait 𝒱₀ ER (meshRd (F := F) X A) (c : Thread nD τ) none (κ := K (c, some (.inl (rg c h))))
      (wpE_semWait_eq 𝒱₀ (c : Thread nD τ) none Set.univ) (Set.mem_univ _) (cr := Finsupp.single (h + 2) 1) (O := Owe c h) (W := W)
      {(SemLoc.reg (crS (rg c h)).sem, h + 2)} (R := 0) (m := (h - 3) / 2) (T := T)
      (by rw [Util.total_single]) (by
        intro x hx
        obtain ⟨y, hy, rfl⟩ := Finset.mem_image.mp hx
        rw [Finset.mem_singleton, Finset.mem_singleton.mp (Finsupp.support_single_subset hy)])) $$ [Hc HO Hat]
    · isplitr; · iexact Hinv
      isplitl [Hc]; · iexact Hc
      isplitl [HO]; · iexact HO
      isplitr; · iapply (recs_mayWait X A K KS c _ (h + 2) (by omega) _ (above_Owe c h)); iexact Hrec
      iexact Hat
    iintro %S ⟨%hS, HO, Hat, Hpay⟩
    obtain ⟨hTS, hS6, hcard⟩ := hS
    rw [duties_cr] at hS6 hcard
    have hcard' : (h - 3) / 2 + 1 ≤ S.card := by
      have h1 : (h - 3) / 2 + 1 + (Finset.range 6 \ S).card ≤ 6 := by
        have := expect_cr X A c (rg c h); rw [this] at hcard; exact hcard
      have h2 := Finset.card_sdiff_add_card_eq_card hS6
      rw [Finset.card_range] at h2
      omega
    have he : bigSep (S \ T) (fun d => (meshRd (F := F) X A).payload (crCell c (rg c h)) 0 d)
        = bigSep (S \ T) (fun d => facts (F := F) (outN (rg c h) c) (rg c h) (d + 1)) := bigSep_congr fun d _ => payload_cr X A c (rg c h) 0 d
    ihave #Hnew := (Entails.of_eq he) $$ Hpay
    have hsp : bigSep S (fun d => facts (F := F) (outN (rg c h) c) (rg c h) (d + 1))
        = iprop(bigSep T (fun d => facts (F := F) (outN (rg c h) c) (rg c h) (d + 1)) ∗ bigSep (S \ T) (fun d => facts (F := F) (outN (rg c h) c) (rg c h) (d + 1))) :=
      bigSep_sdiff_split hTS
    ihave #Hall := (Entails.of_eq hsp.symm) $$ [Hf Hnew]
    · isplitl []; · iexact Hf
      iexact Hnew
    obtain ⟨j, hjS, hj⟩ : ∃ j ∈ S, (h - 3) / 2 ≤ j := by
      by_contra hno
      push Not at hno
      have : S ⊆ Finset.range ((h - 3) / 2) := fun x hx => Finset.mem_range.mpr (hno x hx)
      have := Finset.card_le_card this
      rw [Finset.card_range] at this; omega
    ihave #Hj := (big_elim (Φ := fun d => facts (F := F) (outN (rg c h) c) (rg c h) (d + 1)) hjS) $$ Hall
    ihave #Hj' := (fact_of_facts (F := F) c h h3 j hj) $$ Hj
    icases Hj' with ⟨#Hrel, #Hr1, #Hr3⟩
    ihave #Hsl := (recs_slot X A K KS (nx c h, rg c h, (h - 3) / 2) (by
      unfold keys; simp only [Finset.mem_product, Finset.mem_univ, Finset.mem_range, _root_.true_and]; omega)) $$ Hrec
    imod (Release.slot_take ES (Es := Set.univ) (Set.mem_univ _) 1) $$ [Hw] with Hs
    · isplitr; · iexact Hsl
      isplitr; · iexact Hrel
      iexact Hw
    ihave Hs' := (Entails.of_eq (slotS_eq (F := F) c h h3)) $$ Hs
    icases Hs' with ⟨Hx, Ha⟩
    rw [wp_ret]; imodintro
    iapply Hk
    isplitl [HO]; · iexists _; iexact HO
    isplitl [Hat]
    · iexists S
      isplitr; · ipureintro; exact ⟨hS6, hcard'⟩
      isplitl [Hat]; · iexact Hat
      iexact Hall
    unfold target
    isplitl [Hx]; · iexact Hx
    isplitl [Ha]; · iexact Ha
    isplitr; · iexact Hr1
    iexact Hr3
  · rw [dif_neg (fun x => h3 (hc.mp x)), cw_low c h (by omega)]
    unfold avail target tgtX
    rw [if_pos (by omega), if_pos (by omega)]
    iintro ⟨#Hrec, HO, Hat, Hx, Ha⟩ Hk
    ihave #Hr1 := (recs_reached X A K KS (nx c h, some (.inr (rg c h, 1, sl (h + 1))))) $$ Hrec
    ihave #Hr3 := (recs_reached X A K KS (nx c h, some (.inr (rg c h, 3, sl (h + 1))))) $$ Hrec
    rw [wp_ret]; imodintro
    iapply Hk
    isplitl [HO]; · iexact HO
    isplitl [Hat]; · iexact Hat
    isplitl [Hx]; · iexact Hx
    isplitl [Ha]; · iexact Ha
    rw [show (h + 1) / 4 = 0 by omega, show h / 4 = 0 by omega]
    isplitr; · iexact Hr1
    iexact Hr3

theorem wp_sendx_if {Q : PUnit.{1} → sProp 𝕄} (hh : h < 15) {cnd : Prop} [Decidable cnd] (hc : cnd ↔ h ≤ 13)
    (O : CellTallies nD τ sig ℕ) (hs : Fin 4 → ℕ) (hk : hs 0 = h)
    (p : cnd → Prog (TpuEff nD τ sig (Elt F) Λ₀ .tc) PUnit.{1})
    (hp : ∀ x, ∃ (src' : Memref sig .tc .vmem S512x1024 .bf16) (n' : Dev nD) (dst' : Memref sig .tc .vmem S512x1024 .bf16) (qS qR : DmaSem sig)
        (hsc : dst'.view.ref.isScScratch = false) (h1 : src'.view.WordExact) (h2 : dst'.view.WordExact)
        (h3 : DmaTarget.Typed .vmem (.dma qR) (.remote (Dev.tc n' : Thread nD τ) dst' (.dma qS) hsc)),
      p x = .op (.enqueueDma src' (.remote (Dev.tc n' : Thread nD τ) dst' (.dma qS) hsc) (.dma qR) h1 h2 h3) .ret
      ∧ src' = slotM (xM (rg c h)) (sl h) ∧ n' = nx c h ∧ dst' = slotM (xM (rg c h)) (sl (h + 1))
      ∧ qS = dsem (rg c h) 0 (ks 0 h) ∧ qR = dsem (rg c h) 1 (ks 1 (h + 1))) :
    iprop(recs X A K KS ∗ owns (c : Thread nD τ) (slotM (xM (rg c h)) (sl h)) fullShare (X (org c h)) ∗ tgtX (F := F) c h
        ∗ reached (ER (F := F)) (dcell (nx c h) (rg c h) 1 (sl (h + 1))) ((h + 1) / 4)
        ∗ owesE c (O + ox c h) ∗ tokX (F := F) c h ∗ pos c hs)
      ⊢ iprop(((owns (c : Thread nD τ) (slotM (xM (rg c h)) (sl h)) (qx h) (X (org c h)) ∗ credX (F := F) c h ∗ owesE c O ∗ pos c hs) -∗ Q ⟨⟩)
        -∗ wp frame (wpE (defs₀ (F := F)) 𝒱₀ c none) Set.univ (dite cnd p fun _ => .ret ⟨⟩) Q) := by
  unfold tgtX tokX credX qx ox
  by_cases h13 : h ≤ 13
  · rw [dif_pos (hc.mpr h13), if_pos h13, if_pos h13, if_pos h13, if_pos h13, if_pos h13]
    obtain ⟨src', n', dst', qS, qR, hsc, h1, h2, h3, e, e1, e2, e3, e4, e5⟩ := hp (hc.mpr h13)
    rw [e]
    iintro ⟨#Hrec, Hx, Ht, #Hr, HO, ⟨Ht0, Ht1⟩, Hp⟩ Hk
    ihave Hp' := (pos_reached c hs 0 h hk (by unfold kl; exact decide_eq_true h13) (by omega)) $$ Hp
    icases Hp' with ⟨#Hr0, Hp⟩
    ihave Hx' := (owns_split c _ _) $$ Hx
    icases Hx' with ⟨Hxl, Hxr⟩
    iapply (wp_dsend X A K KS c h 0 1 (by unfold kl; exact decide_eq_true h13) (by unfold kl; exact decide_eq_true (by omega)) hh (h + 3) O
      (O + tallyAt (dcell (nx c h) (rg c h) 1 (sl (h + 1))) (h + 3) N) rfl (slotM (xM (rg c h)) (sl h)) half (X (org c h)) (xM (rg c h))
      (pay0 X A c h) (by
        have e := pay1 X A (nx c h) (h + 1)
        rw [rg_outN (rg c h) c h, org_outN c h hh] at e
        rw [← e]) n' e2 src' dst' e1 e3 qS qR e4 e5) $$ [Hxl Ht HO Ht0 Ht1]
    · isplitr; · iexact Hrec
      isplitl [Hxl]; · iexact Hxl
      isplitl [Ht]; · iexact Ht
      isplitl [HO]; · iexact HO
      isplitl [Ht0]; · iexact Ht0
      isplitr; · iexact Hr0
      isplitl [Ht1]; · iexact Ht1
      iexact Hr
    iintro ⟨Hc, HO⟩
    rw [wp_ret]; imodintro
    iapply Hk
    isplitl [Hxr]; · iexact Hxr
    isplitl [Hc]; · iexact Hc
    isplitl [HO]; · iexact HO
    iexact Hp
  · rw [dif_neg (fun x => h13 (hc.mp x)), if_neg h13, if_neg h13, if_neg h13, if_neg h13, if_neg h13, add_zero]
    iintro ⟨#Hrec, Hx, -, #Hr, HO, -, Hp⟩ Hk
    rw [wp_ret]; imodintro
    iapply Hk
    isplitl [Hx]; · iexact Hx
    isplitr; · iempintro
    isplitl [HO]; · iexact HO
    iexact Hp

theorem wp_waitra_if {Q : PUnit.{1} → sProp 𝕄} (hh : h < 15) {cnd : Prop} [Decidable cnd] (hc : cnd ↔ 1 ≤ h)
    (O : CellTallies nD τ sig ℕ) (hO : Above (h + 2) O) (hs : Fin 4 → ℕ) (hk : hs 3 = h)
    (p : cnd → Prog (TpuEff nD τ sig (Elt F) Λ₀ .tc) PUnit.{1})
    (hp : ∀ x, ∃ (qq : DmaSem sig) (src dst : Memref sig .tc .vmem S512x1024 .bf16) (h1 : src.view.WordExact) (h2 : dst.view.WordExact),
      p x = .op (.waitDma2 qq src dst h1 h2) .ret ∧ qq = dsem (rg c h) 3 (ks 3 h)) :
    iprop(recs X A K KS ∗ inA A c h ∗ owesE c O ∗ pos c hs)
      ⊢ iprop(((owns (c : Thread nD τ) (slotM (aM (rg c h)) (sl h)) fullShare (A (org c h) h) ∗ owesE c O ∗ pos c (Function.update hs 3 (h + 1))
          ∗ reached (ER (F := F)) (dcell c (rg c h) 3 (sl h)) ((h + 3) / 4)) -∗ Q ⟨⟩)
        -∗ wp frame (wpE (defs₀ (F := F)) 𝒱₀ c none) Set.univ (dite cnd p fun _ => .ret ⟨⟩) Q) := by
  unfold inA
  by_cases h1 : 1 ≤ h
  · rw [dif_pos (hc.mpr h1), if_neg (by omega)]
    obtain ⟨qq, src, dst, w1, w2, e, e1⟩ := hp (hc.mpr h1)
    rw [e]
    iintro ⟨#Hrec, Hc, HO, Hp⟩ Hk
    iapply (wp_dwait X A K KS c h 3 (by unfold kl; exact decide_eq_true h1) (by omega) (h + 2) (by omega) O hO hs hk qq e1 src dst) $$ [Hc HO Hp]
    · isplitr; · iexact Hrec
      isplitl [Hc]; · iexact Hc
      isplitl [HO]; · iexact HO
      iexact Hp
    rw [pay3 X A c h h1]
    iintro ⟨HO, Hp, #Hr, Ha⟩
    rw [wp_ret]; imodintro
    iapply Hk
    isplitl [Ha]; · iexact Ha
    isplitl [HO]; · iexact HO
    isplitl [Hp]; · iexact Hp
    rw [show (h + 3) / 4 = kr 3 h + 1 by unfold kr; dsimp only; omega]
    iexact Hr
  · rw [dif_neg (fun x => h1 (hc.mp x)), if_pos (by omega), pos_skip c hs 3 h hk (by unfold kl; exact decide_eq_false h1)]
    iintro ⟨#Hrec, Ha, HO, Hp⟩ Hk
    ihave #Hr := (recs_reached X A K KS (c, some (.inr (rg c h, 3, sl h)))) $$ Hrec
    rw [wp_ret]; imodintro
    iapply Hk
    isplitl [Ha]; · iexact Ha
    isplitl [HO]; · iexact HO
    isplitl [Hp]; · iexact Hp
    rw [show (h + 3) / 4 = 0 by omega]
    iexact Hr

theorem wp_waitsx_if {Q : PUnit.{1} → sProp 𝕄} (hh : h < 15) {cnd : Prop} [Decidable cnd] (hc : cnd ↔ h ≤ 13)
    (O : CellTallies nD τ sig ℕ) (hO : Above 0 O) (hs : Fin 4 → ℕ) (hk : hs 0 = h)
    (p : cnd → Prog (TpuEff nD τ sig (Elt F) Λ₀ .tc) PUnit.{1})
    (hp : ∀ x, ∃ (qq : DmaSem sig) (src dst : Memref sig .tc .vmem S512x1024 .bf16) (h1 : src.view.WordExact) (h2 : dst.view.WordExact),
      p x = .op (.waitDma2 qq src dst h1 h2) .ret ∧ qq = dsem (rg c h) 0 (ks 0 h)) :
    iprop(recs X A K KS ∗ credX (F := F) c h ∗ owns (c : Thread nD τ) (slotM (xM (rg c h)) (sl h)) (qx h) (X (org c h)) ∗ owesE c O ∗ pos c hs)
      ⊢ iprop(((owns (c : Thread nD τ) (slotM (xM (rg c h)) (sl h)) fullShare (X (org c h)) ∗ owesE c O ∗ pos c (Function.update hs 0 (h + 1))) -∗ Q ⟨⟩)
        -∗ wp frame (wpE (defs₀ (F := F)) 𝒱₀ c none) Set.univ (dite cnd p fun _ => .ret ⟨⟩) Q) := by
  unfold credX qx
  by_cases h13 : h ≤ 13
  · rw [dif_pos (hc.mpr h13), if_pos h13, if_pos h13]
    obtain ⟨qq, src, dst, w1, w2, e, e1⟩ := hp (hc.mpr h13)
    rw [e]
    iintro ⟨#Hrec, Hc, Hx, HO, Hp⟩ Hk
    iapply (wp_dwait X A K KS c h 0 (by unfold kl; exact decide_eq_true h13) (by omega) 0 (by omega) O hO hs hk qq e1 src dst) $$ [Hc HO Hp]
    · isplitr; · iexact Hrec
      isplitl [Hc]; · iexact Hc
      isplitl [HO]; · iexact HO
      iexact Hp
    rw [pay0 X A c h]
    iintro ⟨HO, Hp, -, Hl⟩
    rw [wp_ret]; imodintro
    iapply Hk
    isplitl [Hl Hx]
    · iapply (owns_halves c _ _)
      isplitl [Hl]; · iexact Hl
      iexact Hx
    isplitl [HO]; · iexact HO
    iexact Hp
  · rw [dif_neg (fun x => h13 (hc.mp x)), if_neg h13, if_neg h13, pos_skip c hs 0 h hk (by unfold kl; exact decide_eq_false h13)]
    iintro ⟨#Hrec, -, Hx, HO, Hp⟩ Hk
    rw [wp_ret]; imodintro
    iapply Hk
    isplitl [Hx]; · iexact Hx
    isplitl [HO]; · iexact HO
    iexact Hp

theorem slotS_own (hh : h ≤ 11) : slotS (F := F) (c, rg c h, h / 2)
    = iprop((if h ≤ 10 then anyS (F := F) c (xM (rg c h)) (sl h) else iprop(emp)) ∗ anyS (F := F) c (aM (rg c h)) (sl h)) := by
  unfold slotS
  dsimp only
  by_cases h10 : h ≤ 10
  · rw [if_pos (by rw [par_rg]; omega), if_pos h10]; rfl
  · rw [if_neg (by rw [par_rg]; omega), if_neg h10]; rfl
theorem slotS_false (hh : h ≤ 11) : iprop(slotS (F := F) (c, rg c h, h / 2) ∗ slotS (F := F) (c, rg c h, h / 2)) ⊢ (False : sProp 𝕄) := by
  rw [slotS_own c h hh]
  iintro ⟨⟨-, H1⟩, ⟨-, H2⟩⟩
  iapply (anyS_false c (aM (rg c h)) (sl h))
  isplitl [H1]; · iexact H1
  iexact H2
theorem facts_succ (d : Dev nD) (b : Bool) (n : ℕ) : facts (F := F) d b (n + 1) = iprop(fact (F := F) d b n ∗ facts (F := F) d b n) := by
  unfold facts
  rw [Finset.range_add_one]
  exact bigSep_insert Finset.notMem_range_self

theorem wp_crsig {Q : PUnit.{1} → sProp 𝕄} (hh : h < 15) {cnd : Prop} [Decidable cnd] (hc : cnd ↔ h ≤ 11)
    (O : CellTallies nD τ sig ℕ)
    (p : cnd → Prog (TpuEff nD τ sig (Elt F) Λ₀ .tc) PUnit.{1})
    (hp : ∀ x, ∃ n' q m, p x = .op (.semSignal (Dev.tc n' : Thread nD τ) q m) .ret ∧ n' = pv c h ∧ q = (crS (rg c h)).sem ∧ m = ((1 : ℕ) : ℤ)) :
    iprop(recs X A K KS ∗ tokCr (F := F) c h ∗ anyS (F := F) c (xM (rg c h)) (sl h) ∗ anyS (F := F) c (aM (rg c h)) (sl h)
        ∗ facts (F := F) c (rg c h) (fc (rg c h) c h)
        ∗ reached (ER (F := F)) (dcell c (rg c h) 1 (sl h)) (h / 4 + 1) ∗ reached (ER (F := F)) (dcell c (rg c h) 3 (sl h)) ((h + 3) / 4)
        ∗ owesE c (O + ocr c h))
      ⊢ iprop(((owesE c O ∗ facts (F := F) c (rg c h) (fc (rg c h) c (h + 1)) ∗ keptAt (F := F) c h) -∗ Q ⟨⟩)
        -∗ wp frame (wpE (defs₀ (F := F)) 𝒱₀ c none) Set.univ (dite cnd p fun _ => .ret ⟨⟩) Q) := by
  unfold tokCr keptAt ocr
  by_cases h11 : h ≤ 11
  · rw [dif_pos (hc.mpr h11), if_pos h11, if_pos h11, if_pos h11, fc_at c h h11, fc_next c h h11, facts_succ]
    obtain ⟨n', q, m, e, e1, e2, e3⟩ := hp (hc.mpr h11)
    subst e1 e2 e3
    rw [e]
    have hsi : (⟨h / 2 % 2, Nat.mod_lt _ (by decide)⟩ : Fin 2) = sl h := rfl
    iintro ⟨#Hrec, ⟨Hrd, Ht⟩, Hx, Ha, #Hf, #Hr1, #Hr3, HO⟩ Hk
    ihave #Hsl := (recs_slot X A K KS (c, rg c h, h / 2) (by
      unfold keys; simp only [Finset.mem_product, Finset.mem_univ, Finset.mem_range, _root_.true_and]; omega)) $$ Hrec
    have hxs : (anyS (F := F) c (xM (rg c h)) (sl h) : sProp 𝕄)
        ⊢ iprop((if h ≤ 10 then anyS (F := F) c (xM (rg c h)) (sl h) else iprop(emp)) ∗ (if h ≤ 10 then iprop(emp) else anyS (F := F) c (xM (rg c h)) (sl h))) := by
      split
      · iintro H; isplitl [H]; · iexact H
        iempintro
      · iintro H; isplitr; · iempintro
        iexact H
    ihave Hx' := hxs $$ Hx
    icases Hx' with ⟨Hx1, Hx2⟩
    imod (Release.slot_release ES (Es := Set.univ) (Set.mem_univ _) (slotS_false (F := F) c h h11) 0) $$ [Hrd Hx1 Ha] with Hs
    · isplitr; · iexact Hsl
      isplitl [Hrd]; · iexact Hrd
      rw [slotS_own c h h11]
      isplitl [Hx1]; · iexact Hx1
      iexact Ha
    icases Hs with ⟨-, #Hrel⟩
    ihave #Hfact : fact (F := F) c (rg c h) (h / 2) $$ []
    · unfold fact
      rw [par_rg, hsi, show (2 * (h / 2) + h % 2 + 4) / 4 = h / 4 + 1 by omega, show (2 * (h / 2) + h % 2 + 3) / 4 = (h + 3) / 4 by omega]
      isplitr; · iexact Hrel
      isplitr; · iexact Hr1
      iexact Hr3
    unfold owesE
    icases HO with ⟨%W, HO⟩
    ihave #Hinv := (recs_inv X A K KS (pv c h, some (.inl (rg c h)))) $$ Hrec
    ihave #Hrc := (recs_reached X A K KS (pv c h, some (.inl (rg c h)))) $$ Hrec
    iapply (Rounds.wp_signal 𝒱₀ ER (meshRd (F := F) X A) (c : Thread nD τ) none (dst := ((pv c h : Dev nD) : Thread nD τ)) (sem := (crS (rg c h)).sem)
      (κ := K (pv c h, some (.inl (rg c h)))) (r := 0) (d := h / 2)
      (by rw [duties_cr]; exact Finset.mem_range.mpr (by omega)) (amount_r X A (pv c h) 0 (h / 2) _) (h + 5) O rfl (W := W)) $$ [HO Ht]
    · isplitr; · iexact Hinv
      isplitl [HO]; · iexact HO
      isplitl [Ht]; · iexact Ht
      isplitr
      · rw [payload_cr, outN_inN, facts_succ]
        isplitr; · iexact Hfact
        iexact Hf
      iexact Hrc
    iintro HO
    rw [wp_ret]; imodintro
    iapply Hk
    isplitl [HO]; · iexists W; iexact HO
    isplitr
    · isplitr; · iexact Hfact
      iexact Hf
    isplitl [Hx2]; · iexact Hx2
    iempintro
  · rw [dif_neg (fun x => h11 (hc.mp x)), if_neg h11, if_neg h11, if_neg h11, if_neg (by omega), fc_high c h (by omega), add_zero]
    iintro ⟨#Hrec, -, Hx, Ha, #Hf, -, -, HO⟩ Hk
    rw [wp_ret]; imodintro
    iapply Hk
    isplitl [HO]; · iexact HO
    isplitr; · iexact Hf
    isplitl [Hx]; · iexact Hx
    iexact Ha

end Step

end Cert.KernelIdeal.Mesh
-- ==== Proof.ValI.lean ====
/- The values of a step of the rings, and a step's loads. -/
module

public import proofs.«01_k».proof.Proof.CondI

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The value of a step -/

/-- The attention of one device's heads at the activations `x`, before the output projection. -/
def attn (w : Fin 4 → Vec F S1024x1024 .f32) (x : Vec F S512x1024 .bf16) : FVec F S512x1024 .f32 :=
  let v209 := k0_pay4 (up x)
  let v212 := k0_pay5 (up x) (w 0)
  let v214 := k0_pay6 (w 2)
  let z : FVec F S512x1024 .f32 := constant S512x1024 .f32 0x00000000#32
  let v215 := k0_pay7 v209 v214 z
  let v218 := k0_pay8 v209 (w 3)
  k0_pay17 v212 v215 v218 (k0_pay9 v209 v212 v214 z (w 3)) (k0_pay10 v209 v212 v214 z (w 3))
    (k0_pay13 v218 (k0_pay11 v209 v212 v214 z) (k0_pay12 v209 v212 v214 z)) (k0_pay14 v212 v215 v218) (k0_pay15 v212 v215 v218) (k0_pay16 v212 v215)

/-- A partial sum with one device's share added. -/
def stepVal (w : Fin 4 → Vec F S1024x1024 .f32) (x a : Vec F S512x1024 .bf16) : Vec F S512x1024 .bf16 :=
  down (k0_pay19 (attn w x) (k0_pay18 (w 1)) (up a))

theorem wp_load_own (c : Dev nD) {α : Type} {Q : α → sProp 𝕄} {q : PosShare TreeShare} (M' M : Memref sig .tc .vmem S2x512x1024 .bf16) (hM : M' = M) (o : Fin 3 → ℕ)
    (ho : ∀ a, o a + S1x512x1024.size a ≤ S2x512x1024.size a) (s : Fin 2) (h : o = ![s.val, 0, 0]) (V : Vec F S512x1024 .bf16)
    {hl : M'.view.LoadsAt (Rect.unit (s := S2x512x1024) o S1x512x1024.size ho).toLoadRect}
    {k : Vec F S1x512x1024 .bf16 → Prog (TpuEff nD τ sig (Elt F) Λ₀ .tc) α} :
    owns (c : Thread nD τ) (slotM M s) q V
      ⊢ iprop((owns (c : Thread nD τ) (slotM M s) q V -∗ wp frame (wpE (defs₀ (F := F)) 𝒱₀ c none) Set.univ (k (up V)) Q)
        -∗ wp frame (wpE (defs₀ (F := F)) 𝒱₀ c none) Set.univ (.op (.load M' (Rect.unit (s := S2x512x1024) o S1x512x1024.size ho).toLoadRect hl) k) Q) := by
  subst hM; exact wp_load_slot c M' o ho s h V

theorem wp_store_own (c : Dev nD) {α : Type} {Q : α → sProp 𝕄} (M' M : Memref sig .tc .vmem S2x512x1024 .bf16) (hM : M' = M) (o : Fin 3 → ℕ)
    (ho : ∀ a, o a + S1x512x1024.size a ≤ S2x512x1024.size a) (s : Fin 2) (h : o = ![s.val, 0, 0])
    (w : Vec F S1x512x1024 .bf16)
    {hx : View.Stores (cs := .vmem) (M'.access (Rect.unit (s := S2x512x1024) o S1x512x1024.size ho)) Finset.univ}
    {k : PUnit.{1} → Prog (TpuEff nD τ sig (Elt F) Λ₀ .tc) α} :
    anyS c M s
      ⊢ iprop((owns (c : Thread nD τ) (slotM M s) fullShare (down w) -∗ wp frame (wpE (defs₀ (F := F)) 𝒱₀ c none) Set.univ (k ⟨⟩) Q)
        -∗ wp frame (wpE (defs₀ (F := F)) 𝒱₀ c none) Set.univ (.op (stOp M' o ho w hx) k) Q) := by
  subst hM; exact wp_store_slot c M' o ho s h w

/-- The load of all of a buffer. -/
theorem wp_load_all (c : Dev nD) {α : Type} {Q : α → sProp 𝕄} {q : PosShare TreeShare} {sh : Shape} {e : EltTy} (m : Memref sig .tc .vmem sh e) (off : Fin sh.rank → ℕ)
    (inb : ∀ a, off a + sh.size a ≤ sh.size a) (V : Vec F sh e)
    (hm : ∀ f, m.view.readAt (Elt F) (Rect.unit off sh.size inb).toLoadRect f = m.view.read (Elt F) f)
    {hl : m.view.LoadsAt (Rect.unit off sh.size inb).toLoadRect}
    {k : Vec F sh e → Prog (TpuEff nD τ sig (Elt F) Λ₀ .tc) α} (hS : m.view.set = Finset.univ) :
    owns (c : Thread nD τ) m q V
      ⊢ iprop((owns (c : Thread nD τ) m q V -∗ wp frame (wpE (defs₀ (F := F)) 𝒱₀ c none) Set.univ (k V) Q)
        -∗ wp frame (wpE (defs₀ (F := F)) 𝒱₀ c none) Set.univ (.op (.load m (Rect.unit off sh.size inb).toLoadRect hl) k) Q) := by
  unfold owns
  iintro ⟨%f, %hf, H⟩ Hk
  iapply (wp_load 𝒱₀ (c : Thread nD τ) none Set.univ (m := m) (S := m.view.set) (by rw [hS]; exact Finset.subset_univ _)) $$ H
  iintro H
  rw [hm f, hf]
  iapply Hk
  iexists f; isplitr; · ipureintro; exact hf
  iexact H

theorem rd_whole (b : Ref sig .tc) (off : Fin b.ty.shape.rank → ℕ) (h : off = fun _ => 0) (inb : ∀ a, off a + b.ty.shape.size a ≤ b.ty.shape.size a)
    (f : b.ty.Contents (Elt F)) :
    (Memref.whole b : Memref sig .tc _ _ _).view.readAt (Elt F) (Rect.unit off b.ty.shape.size inb).toLoadRect f = (Memref.whole b : Memref sig .tc _ _ _).view.read (Elt F) f :=
  Memref.readAt_unit_zero (Elt F) b h inb f

/-- What follows an operation that only some steps do, apart from it. -/
theorem dite_next {α : Type} {cnd : Prop} [Decidable cnd] (e : cnd → TpuEff nD τ sig (Elt F) Λ₀ .tc PUnit.{1}) (k : Prog (TpuEff nD τ sig (Elt F) Λ₀ .tc) α) :
    (dite cnd (fun x => Prog.op (e x) (fun _ => k)) fun _ => k) = ((dite cnd (fun x => Prog.op (e x) .ret) fun _ => .ret ⟨⟩) >>= fun _ => k) := by
  split <;> rfl

theorem cond4 : ∀ t : Fin k0_t1_loop.trips, (Scalar.cmpi .ne (Scalar.extui (Scalar.andi (Scalar.cmpi .sge (Scf.iv 0#32 1#32 t.val) 3#32) (Scalar.cmpi .sle (Scf.iv 0#32 1#32 t.val) 14#32)) : BitVec 32) 0#32) = 1#1 ↔ 3 ≤ t.val := by decide +kernel
theorem cond3 : ∀ (c : Dev nD) (t : Fin k0_t1_loop.trips), k0_cond3 c t = 1#1 ↔ rg c t.val = true := by decide +kernel
theorem cond9 : ∀ (c : Dev nD) (t : Fin k0_t1_loop.trips), k0_cond9 c t = 1#1 ↔ rg c t.val = false := by decide +kernel
theorem cond5 : ∀ (t : Fin k0_t1_loop.trips), k0_cond5 t = 1#1 ↔ t.val ≤ 13 := by decide +kernel
theorem cond6 : ∀ (t : Fin k0_t1_loop.trips), k0_cond6 t = 1#1 ↔ 1 ≤ t.val := by decide +kernel
theorem cond7 : ∀ (t : Fin k0_t1_loop.trips), k0_cond7 t = 1#1 ↔ t.val ≤ 13 := by decide +kernel
theorem cond8 : ∀ (t : Fin k0_t1_loop.trips), k0_cond8 t = 1#1 ↔ t.val ≤ 11 := by decide +kernel
theorem cond11 : ∀ (t : Fin k0_t1_loop.trips), k0_cond11 t = 1#1 ↔ t.val ≤ 13 := by decide +kernel
theorem cond12 : ∀ (t : Fin k0_t1_loop.trips), k0_cond12 t = 1#1 ↔ 1 ≤ t.val := by decide +kernel
theorem cond13 : ∀ (t : Fin k0_t1_loop.trips), k0_cond13 t = 1#1 ↔ t.val ≤ 13 := by decide +kernel
theorem cond14 : ∀ (t : Fin k0_t1_loop.trips), k0_cond14 t = 1#1 ↔ t.val ≤ 11 := by decide +kernel
theorem o2 : ∀ t : Fin k0_t1_loop.trips, k0_off2 t = ![(sl t.val).val, 0, 0] := by decide +kernel
theorem o5 : ∀ t : Fin k0_t1_loop.trips, k0_off5 t = ![(sl t.val).val, 0, 0] := by decide +kernel
theorem o6 : ∀ t : Fin k0_t1_loop.trips, k0_off6 t = ![(sl t.val).val, 0, 0] := by decide +kernel
theorem o8 : ∀ t : Fin k0_t1_loop.trips, k0_off8 t = ![(sl t.val).val, 0, 0] := by decide +kernel
theorem o12 : ∀ t : Fin k0_t1_loop.trips, k0_off12 t = ![(sl t.val).val, 0, 0] := by decide +kernel
theorem o15 : ∀ t : Fin k0_t1_loop.trips, k0_off15 t = ![(sl t.val).val, 0, 0] := by decide +kernel
theorem o18 : ∀ t : Fin k0_t1_loop.trips, k0_off18 t = ![(sl t.val).val, 0, 0] := by decide +kernel
theorem o19 : ∀ t : Fin k0_t1_loop.trips, k0_off19 t = ![(sl t.val).val, 0, 0] := by decide +kernel
theorem o21 : ∀ t : Fin k0_t1_loop.trips, k0_off21 t = ![(sl t.val).val, 0, 0] := by decide +kernel
theorem o25 : ∀ t : Fin k0_t1_loop.trips, k0_off25 t = ![(sl t.val).val, 0, 0] := by decide +kernel
theorem o1 : ∀ t : Fin k0_t1_loop.trips, k0_off1 t = ![(sl t.val).val] := by decide +kernel
theorem o7 : ∀ t : Fin k0_t1_loop.trips, k0_off7 t = ![(sl t.val).val] := by decide +kernel
theorem o14 : ∀ t : Fin k0_t1_loop.trips, k0_off14 t = ![(sl t.val).val] := by decide +kernel
theorem o20 : ∀ t : Fin k0_t1_loop.trips, k0_off20 t = ![(sl t.val).val] := by decide +kernel
theorem o4 : ∀ t : Fin k0_t1_loop.trips, k0_off4 t = ![(sl (t.val + 1)).val, 0, 0] := by decide +kernel
theorem o10 : ∀ t : Fin k0_t1_loop.trips, k0_off10 t = ![(sl (t.val + 1)).val, 0, 0] := by decide +kernel
theorem o13 : ∀ t : Fin k0_t1_loop.trips, k0_off13 t = ![(sl (t.val + 1)).val, 0, 0] := by decide +kernel
theorem o17 : ∀ t : Fin k0_t1_loop.trips, k0_off17 t = ![(sl (t.val + 1)).val, 0, 0] := by decide +kernel
theorem o23 : ∀ t : Fin k0_t1_loop.trips, k0_off23 t = ![(sl (t.val + 1)).val, 0, 0] := by decide +kernel
theorem o26 : ∀ t : Fin k0_t1_loop.trips, k0_off26 t = ![(sl (t.val + 1)).val, 0, 0] := by decide +kernel
theorem o3 : ∀ t : Fin k0_t1_loop.trips, k0_off3 t = ![(sl (t.val + 1)).val] := by decide +kernel
theorem o9 : ∀ t : Fin k0_t1_loop.trips, k0_off9 t = ![(sl (t.val + 1)).val] := by decide +kernel
theorem o11 : ∀ t : Fin k0_t1_loop.trips, k0_off11 t = ![(sl (t.val + 1)).val] := by decide +kernel
theorem o16 : ∀ t : Fin k0_t1_loop.trips, k0_off16 t = ![(sl (t.val + 1)).val] := by decide +kernel
theorem o22 : ∀ t : Fin k0_t1_loop.trips, k0_off22 t = ![(sl (t.val + 1)).val] := by decide +kernel
theorem o24 : ∀ t : Fin k0_t1_loop.trips, k0_off24 t = ![(sl (t.val + 1)).val] := by decide +kernel
theorem devL : ∀ c : Dev nD, (⟨(c.val + 15) % 16, Nat.mod_lt _ (by decide)⟩ : Dev nD) = outN true c := by decide
theorem d5 (c : Dev nD) (h : k0_dev5 c < nD) : (⟨k0_dev5 c, h⟩ : Dev nD) = outN true c := Fin.ext (k0_dev5_eq c)
theorem d6 (c : Dev nD) (h : k0_dev6 c < nD) : (⟨k0_dev6 c, h⟩ : Dev nD) = outN true c := Fin.ext (k0_dev6_eq c)
theorem d7 (c : Dev nD) (h : k0_dev7 c < nD) : (⟨k0_dev7 c, h⟩ : Dev nD) = outN false c := Fin.ext (k0_dev7_eq c)
theorem d8 (c : Dev nD) (h : k0_dev8 c < nD) : (⟨k0_dev8 c, h⟩ : Dev nD) = outN false c := Fin.ext (k0_dev8_eq c)
theorem d9 (c : Dev nD) (h : k0_dev9 c < nD) : (⟨k0_dev9 c, h⟩ : Dev nD) = outN false c := Fin.ext (k0_dev9_eq c)
theorem d10 (c : Dev nD) (h : k0_dev10 c < nD) : (⟨k0_dev10 c, h⟩ : Dev nD) = outN true c := Fin.ext (k0_dev10_eq c)

end Cert.KernelIdeal.Mesh
-- ==== Proof.EnterI.lean ====
/- Entry: the neighbours are met, the own activations kept and sent on, the first partial sum set to zero. -/
module

public import proofs.«01_k».proof.Proof.ValI

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → Vec F S512x1024 .bf16) (A : Dev nD → ℕ → Vec F S512x1024 .bf16)
variable (K : Dev nD × CI → ℕ) (KS : Key → ℕ)

/-- The bit telling whether a device's place on the ring is odd, as the body computes it. -/
abbrev v9 (c : Dev nD) : BitVec 1 := Scalar.cmpi .eq (Scalar.remsi (Scalar.remsi (Scalar.divsi (Dev.word c) 1#32) 16#32) 2#32) 1#32

theorem c1 : ∀ c : Dev nD, k0_cond1 c = 1#1 ↔ par true c = 1 := by decide +kernel
theorem c2 : ∀ c : Dev nD, k0_cond2 c = 1#1 ↔ par false c = 1 := by decide +kernel

/-- The four slots of a device on ring `b`. -/
def slotsR (c : Dev nD) (b : Bool) : sProp 𝕄 :=
  iprop(anyS (F := F) c (xM b) 0 ∗ anyS (F := F) c (xM b) 1 ∗ anyS (F := F) c (aM b) 0 ∗ anyS (F := F) c (aM b) 1)

/-- The rights a device enters with, `b` being the ring it sends on before its steps. -/
def entry (c : Dev nD) (b : Bool) : sProp 𝕄 :=
  iprop(dutyTok (ER (F := F)) (barCell (outN true c)) 0 1 ∗ dutyTok (ER (F := F)) (barCell (outN false c)) 0 0
    ∗ cred (tallyAt (barCell c) 1 2) ∗ atPos (ER (F := F)) (barCell c) 0 ∅ 0
    ∗ dutyTok (ER (F := F)) (dcell c b 0 0) 0 0 ∗ dutyTok (ER (F := F)) (dcell (outN b c) b 1 0) 0 0)

/-- The positions at entry. -/
def pos0 (c : Dev nD) : sProp 𝕄 := bigSep Finset.univ fun x : CX => at' (F := F) (dcell c x.1 x.2.1 x.2.2) 0

/-- What a device holds after entry. -/
def entered (c : Dev nD) (xs : Vec F S1x512x1024 .f32) : sProp 𝕄 :=
  iprop(owesE c (Owe c 0) ∗ owns (c : Thread nD τ) xoM fullShare (X c) ∗ pos c (fun _ => 0)
    ∗ (avail (F := F) c 0 ∗ avail (F := F) c 1 ∗ avail (F := F) c 2)
    ∗ owns (c : Thread nD τ) (slotM (aM (rg c 0)) 0) fullShare (A (org c 0) 0)
    ∗ atPos (ER (F := F)) (barCell c) 1 ∅ 0 ∗ owns (c : Thread nD τ) (Memref.whole cc0_stg0_0) fullShare xs)

theorem barPay_one (c : Dev nD) (b : Bool) (hp : par b c = 1) : slotsR (F := F) c b ⊢ barPay c b := by
  unfold slotsR barPay
  rw [if_pos hp]
  iintro ⟨H1, H2, H3, H4⟩
  isplitl [H1]; · iexact H1
  isplitl [H2]; · iexact H2
  isplitl [H4]; · iexact H4
  iexact H3
theorem barPay_zero (c : Dev nD) (b : Bool) (hp : par b c = 0) : slotsR (F := F) c b ⊢ iprop(barPay c b ∗ anyS c (aM b) 0) := by
  unfold slotsR barPay
  rw [if_neg (by omega)]
  iintro ⟨H1, H2, H3, H4⟩
  isplitr [H3]
  · isplitl [H1]; · iexact H1
    isplitl [H2]; · iexact H2
    isplitl [H4]; · iexact H4
    iempintro
  iexact H3
theorem barPay_left (c : Dev nD) : barPay (F := F) c false = (meshRd (F := F) X A).payload (barCell (outN true c)) 0 1 := by
  rw [payload_bar, show decide ((1 : ℕ) = 0) = false from rfl, show outN false (outN true c) = c from inN_outN true c]
theorem barPay_right (c : Dev nD) : barPay (F := F) c true = (meshRd (F := F) X A).payload (barCell (outN false c)) 0 0 := by
  rw [payload_bar, show decide ((0 : ℕ) = 0) = true from rfl, show outN true (outN false c) = c from inN_outN false c]

theorem avail_of (c : Dev nD) (b : Bool) (hp : par b c = 1) :
    iprop(barPay (F := F) (outN b c) b ∗ barPay (F := F) (outN (!b) c) (!b))
      ⊢ iprop(anyS (outN b c) (xM b) 0 ∗ avail c 0 ∗ avail c 1 ∗ avail c 2) := by
  have hq : par (!b) c = 0 := by rw [par_not, hp]
  have h0 : rg c 0 = !b := (rg_eq_iff _ c 0).mpr (by rw [hq])
  have h1 : rg c 1 = b := (rg_eq_iff _ c 1).mpr (by rw [hp])
  have h2 : rg c 2 = !b := (rg_eq_iff _ c 2).mpr (by rw [hq])
  have e1 : par b (outN b c) = 0 := by rw [par_outN, hp]
  have e2 : par (!b) (outN (!b) c) = 1 := by rw [par_outN, hq]
  unfold avail barPay nx
  rw [if_pos (show 0 < 3 by decide), if_pos (show 1 < 3 by decide), if_pos (show 2 < 3 by decide), h0, h1, h2, if_neg (show ¬ par b (outN b c) = 1 by rw [e1]; decide), if_pos e2]
  iintro ⟨⟨H1, H2, H3, -⟩, ⟨G1, G2, G3, G4⟩⟩
  isplitl [H1]; · iexact H1
  isplitl [G1 G4]
  · isplitl [G1]; · iexact G1
    iexact G4
  isplitl [H2 H3]
  · isplitl [H2]; · iexact H2
    iexact H3
  isplitl [G2]; · iexact G2
  iexact G3

theorem pos_enter (c : Dev nD) (b : Bool) (hp : par b c = 1) :
    pos0 (F := F) c ⊢ iprop(at' (F := F) (dcell c b 0 0) 0 ∗ (at' (F := F) (dcell c b 0 0) (0 + 1) -∗ pos c (fun _ => 0))) := by
  unfold pos0 pos
  rw [bigSep_univ_at _ ((b, 0, 0) : CX), bigSep_univ_at (fun x : CX => at' (F := F) (dcell c x.1 x.2.1 x.2.2) (P (par x.1 c) x.2.1 x.2.2 0)) ((b, 0, 0) : CX)]
  have e : ∀ x ∈ Finset.univ.erase ((b, 0, 0) : CX), P (par x.1 c) x.2.1 x.2.2 0 = 0 := fun x hx => by
    have hne := Finset.ne_of_mem_erase hx
    obtain ⟨b', k', s'⟩ := x
    show (if k' = 0 ∧ par b' c = 1 ∧ s' = 0 then 1 else 0) = 0
    refine if_neg fun h => hne ?_
    obtain ⟨rfl, h2, rfl⟩ := h
    by_cases hb : b' = b
    · subst hb; rfl
    · have hb' : b' = !b := by revert hb; cases b' <;> cases b <;> decide
      rw [hb', par_not, hp] at h2; exact absurd h2 (by decide)
  rw [bigSep_congr (Φ := fun x : CX => at' (F := F) (dcell c x.1 x.2.1 x.2.2) (P (par x.1 c) x.2.1 x.2.2 0)) (Ψ := fun x : CX => at' (F := F) (dcell c x.1 x.2.1 x.2.2) 0) fun x hx => by rw [e x hx]]
  have e0 : P (par b c) 0 (0 : Fin 2) 0 = 0 + 1 := by show (if (0 : Fin 4) = 0 ∧ par b c = 1 ∧ (0 : Fin 2) = 0 then 1 else 0) = 1; rw [if_pos ⟨rfl, hp, rfl⟩]
  dsimp only
  rw [e0]
  iintro ⟨H, Hr⟩
  isplitl [H]; · iexact H
  iintro H
  isplitl [H]; · iexact H
  iexact Hr

theorem pay_enter (c : Dev nD) (b : Bool) (hp : par b c = 1) : (owns (c : Thread nD τ) xoM fullShare (X c) : sProp 𝕄) ⊢ payD X A c b 0 0 0 := by
  unfold payD
  dsimp only
  rw [hp, if_pos (by decide)]
theorem pay_back (c : Dev nD) (b : Bool) (hp : par b c = 1) : payD X A c b 0 0 0 ⊢ (owns (c : Thread nD τ) xoM fullShare (X c) : sProp 𝕄) := by
  unfold payD
  dsimp only
  rw [hp, if_pos (by decide)]
theorem pay_arrive (c : Dev nD) (b : Bool) (hp : par b c = 1) :
    (owns (outN b c : Thread nD τ) (slotM (xM b) 0) fullShare (X c) : sProp 𝕄) ⊢ payD X A (outN b c) b 1 0 0 := by
  unfold payD
  dsimp only
  rw [par_outN, hp, show hx (1 - 1) (0 : Fin 2).val 0 = 0 from rfl, org_pre b c hp]

theorem anyS_owns (c : Dev nD) (M : Memref sig .tc .vmem S2x512x1024 .bf16) (s : Fin 2) :
    anyS (F := F) c M s ⊢ iprop(∃ V, owns (c : Thread nD τ) (slotM M s) fullShare V) := by
  unfold anyS Release.slot owns
  iintro ⟨%f, H⟩
  iexists _, f
  isplitr; · ipureintro; rfl
  iexact H

theorem wr_whole (b : Ref sig .tc) (off : Fin b.ty.shape.rank → ℕ) (h : off = fun _ => 0) (inb : ∀ a, off a + b.ty.shape.size a ≤ b.ty.shape.size a)
    (w : b.ty.Contents (Elt F)) (f : b.ty.Contents (Elt F)) :
    (Memref.whole b : Memref sig .tc _ _ _).view.read (Elt F) (((Memref.whole b : Memref sig .tc _ _ _).access (Rect.unit off b.ty.shape.size inb)).write (Elt F) f w Finset.univ) = w := by
  rw [Memref.write_access_unit_zero_univ (Elt F) b h inb f w]; rfl

/-- The store of all of a buffer. -/
theorem wp_store_all (c : Dev nD) {α : Type} {Q : α → sProp 𝕄} {sh : Shape} {e : EltTy} (m : Memref sig .tc .vmem sh e) (off : Fin sh.rank → ℕ)
    (inb : ∀ a, off a + sh.size a ≤ sh.size a) (V w : Vec F sh e)
    (hm : ∀ f, m.view.read (Elt F) ((m.access (Rect.unit off sh.size inb)).write (Elt F) f w Finset.univ) = w)
    {hx : View.Stores (cs := .vmem) (m.access (Rect.unit off sh.size inb)) Finset.univ}
    {k : PUnit.{1} → Prog (TpuEff nD τ sig (Elt F) Λ₀ .tc) α} (hS : m.view.set = Finset.univ) :
    owns (c : Thread nD τ) m fullShare V
      ⊢ iprop((owns (c : Thread nD τ) m fullShare w -∗ wp frame (wpE (defs₀ (F := F)) 𝒱₀ c none) Set.univ (k ⟨⟩) Q)
        -∗ wp frame (wpE (defs₀ (F := F)) 𝒱₀ c none) Set.univ (.op (.store (cs := .vmem) m (Rect.unit off sh.size inb) w Finset.univ hx (.inl rfl)) k) Q) := by
  unfold owns
  iintro ⟨%f, -, H⟩ Hk
  iapply (wp_store 𝒱₀ (c : Thread nD τ) none Set.univ (m := m) (r := Rect.unit off sh.size inb) (Mk := Finset.univ) (S := m.view.set) (by rw [hS]; exact Finset.subset_univ _)) $$ H
  iintro H
  iapply Hk
  iexists _; isplitr; · ipureintro; exact hm f
  iexact H

theorem wp_barsig (c n : Dev nD) (d : ℕ) (O : CellTallies nD τ sig ℕ) (hd : d ∈ ({0, 1} : Finset ℕ)) {α : Type} {Q : α → sProp 𝕄}
    (n' : Dev nD) (hn : n' = n) (q : Sem sig) (hq : q = barS) {k : PUnit.{1} → Prog (TpuEff nD τ sig (Elt F) Λ₀ .tc) α} :
    iprop(recs X A K KS ∗ owesE c (O + tallyAt (barCell n) 1 1) ∗ dutyTok (ER (F := F)) (barCell n) 0 d ∗ (meshRd (F := F) X A).payload (barCell n) 0 d)
      ⊢ iprop((owesE c O -∗ wp frame (wpE (defs₀ (F := F)) 𝒱₀ c none) Set.univ (k ⟨⟩) Q) -∗ wp frame (wpE (defs₀ (F := F)) 𝒱₀ c none) Set.univ (.op (.semSignal (Dev.tc n' : Thread nD τ) q (1#32 : BitVec 32).toInt) k) Q) := by
  subst hn hq
  unfold owesE
  iintro ⟨#Hrec, ⟨%W, HO⟩, Ht, Hp⟩ Hk
  ihave #Hinv := (recs_inv X A K KS (n', none)) $$ Hrec
  ihave #Hr := (recs_reached X A K KS (n', none)) $$ Hrec
  iapply (Rounds.wp_signal 𝒱₀ ER (meshRd (F := F) X A) (c : Thread nD τ) none (dst := (n' : Thread nD τ)) (sem := barS) (κ := K (n', none)) (r := 0)
      (d := d) (by rw [duties_bar]; exact hd) (by rw [amount_r]; decide) 1 O rfl (W := W)) $$ [HO Ht Hp]
  · isplitr; · iexact Hinv
    isplitl [HO]; · iexact HO
    isplitl [Ht]; · iexact Ht
    isplitl [Hp]; · iexact Hp
    iexact Hr
  iintro HO
  iapply Hk
  iexists W; iexact HO

theorem wp_barwait (c : Dev nD) (O : CellTallies nD τ sig ℕ) (ha : Above 1 O) {α : Type} {Q : α → sProp 𝕄}
    (q : Sem sig) (hq : q = barS) (m : ℤ) (hm : m = (2#32 : BitVec 32).toInt) {k : PUnit.{1} → Prog (TpuEff nD τ sig (Elt F) Λ₀ .tc) α} :
    iprop(recs X A K KS ∗ cred (tallyAt (barCell c) 1 2) ∗ owesE c O ∗ atPos (ER (F := F)) (barCell c) 0 ∅ 0)
      ⊢ iprop(((owesE c O ∗ atPos (ER (F := F)) (barCell c) 1 ∅ 0 ∗ barPay (F := F) (outN true c) true ∗ barPay (F := F) (outN false c) false) -∗ wp frame (wpE (defs₀ (F := F)) 𝒱₀ c none) Set.univ (k ⟨⟩) Q)
        -∗ wp frame (wpE (defs₀ (F := F)) 𝒱₀ c none) Set.univ (.op (.semWait q m) k) Q) := by
  subst hq hm
  unfold owesE
  iintro ⟨#Hrec, Hc, ⟨%W, HO⟩, Hat⟩ Hk
  ihave #Hinv := (recs_inv X A K KS (c, none)) $$ Hrec
  iapply (Rounds.wp_wait_rest_token 𝒱₀ ER (meshRd (F := F) X A) (c : Thread nD τ) none (κ := K (c, none))
      (wpE_semWait_eq 𝒱₀ (c : Thread nD τ) none Set.univ) (Set.mem_univ _) 1 (O := O) (W := W) (R := 0) (m := 0) (T := ∅)
      (by rw [expect_bar]; decide)) $$ [Hc HO Hat]
  · isplitr; · iexact Hinv
    isplitl [Hc]; · iexact Hc
    isplitl [HO]; · iexact HO
    isplitr; · iapply (recs_mayWait X A K KS c _ 1 (by decide) O ha); iexact Hrec
    iexact Hat
  iintro ⟨HO, Hat, -, Hpay⟩
  iapply Hk
  isplitl [HO]; · iexists _; iexact HO
  isplitl [Hat]; · iexact Hat
  have hs : bigSep ((meshRd (F := F) X A).duties (barCell c) 0 \ ∅) (fun d => (meshRd (F := F) X A).payload (barCell c) 0 d)
      = iprop((meshRd (F := F) X A).payload (barCell c) 0 0 ∗ (meshRd (F := F) X A).payload (barCell c) 0 1) := by
    rw [duties_bar, Finset.sdiff_empty, bigSep_insert (by decide), bigSep_singleton]; rfl
  ihave Hpay' := (Entails.of_eq hs) $$ Hpay
  rw [payload_bar, payload_bar]
  iexact Hpay'

theorem part11_true (c : Dev nD) (hp : par true c = 1) (xs : Vec F S1x512x1024 .f32) (hX : X c = k0_pay36 xs)
    (hA : A (org c 0) 0 = down (k0_pay37 (F := F)))
    {Q : (Σ' (d0 : Dev nD) (v2 : BitVec 32) (v5 : BitVec 32) (v7 : BitVec 32) (v9 : BitVec 1) (c0_i32_19 : BitVec 32), BitVec 32) → sProp 𝕄} :
    iprop(recs X A K KS ∗ owesE c (Owe c 0 + tallyAt (dcell (outN true c) true 1 0) 2 N + tallyAt (barCell (outN false c)) 1 1 + tallyAt (barCell (outN true c)) 1 1)
        ∗ entry (F := F) c true ∗ pos0 (F := F) c ∗ slotsR (F := F) c true ∗ slotsR (F := F) c false ∗ (∃ f, owns (c : Thread nD τ) xoM fullShare f)
        ∗ owns (c : Thread nD τ) (Memref.whole cc0_stg0_0) fullShare xs)
      ⊢ iprop((∀ v2 v5 v7, entered X A c xs -∗ Q ⟨c, v2, v5, v7, v9 c, 0#32, 15#32⟩)
        -∗ wp frame (wpE (defs₀ (F := F)) 𝒱₀ c none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14) Q) := by
  have hy : k0_cond1 c = 1#1 := (c1 c).mpr hp
  have hn : ¬ k0_cond2 c = 1#1 := fun h => by
    have h' := (c2 c).mp h
    have := par_not true c
    rw [hp] at this; rw [show (!true) = false from rfl, h'] at this; exact absurd this (by decide)
  have hr0 : rg c 0 = false := (rg_eq_iff false c 0).mpr (by have := par_not true c; rw [hp] at this; exact this.symm)
  have hp0 : par false c = 0 := by have := par_not true c; rw [hp] at this; exact this
  rw [k0_part11_eq_skeleton]; unfold k0_part11_skel
  simp only [dif_pos hy, dif_neg hn, semSignalWord, semWaitWord, Prog.lift, Prog.bind_op, Prog.bind_ret, Prog.pure_eq_ret, wp_deviceId]
  unfold entry
  iintro ⟨#Hrec, HO, ⟨Ht1, Ht0, HcB, HatB, HtS, HtR⟩, Hp, HsT, HsF, ⟨%f0, Hxo⟩, Hx⟩ Hk
  ihave HbT := (barPay_one c true hp) $$ HsT
  ihave HbF' := (barPay_zero c false hp0) $$ HsF
  icases HbF' with ⟨HbF, Ha0⟩
  iapply (wp_barsig X A K KS c (outN true c) 1 (Owe c 0 + tallyAt (dcell (outN true c) true 1 0) 2 N + tallyAt (barCell (outN false c)) 1 1) (by decide) _ (Fin.ext (k0_dev1_eq c)) _ rfl) $$ [HO Ht1 HbF]
  · isplitr; · iexact Hrec
    isplitl [HO]; · iexact HO
    isplitl [Ht1]; · iexact Ht1
    iapply (Entails.of_eq (barPay_left X A c)); iexact HbF
  iintro HO
  iapply (wp_barsig X A K KS c (outN false c) 0 (Owe c 0 + tallyAt (dcell (outN true c) true 1 0) 2 N) (by decide) _ (Fin.ext (k0_dev2_eq c)) _ rfl) $$ [HO Ht0 HbT]
  · isplitr; · iexact Hrec
    isplitl [HO]; · iexact HO
    isplitl [Ht0]; · iexact Ht0
    iapply (Entails.of_eq (barPay_right X A c)); iexact HbT
  iintro HO
  iapply (wp_barwait X A K KS c (Owe c 0 + tallyAt (dcell (outN true c) true 1 0) 2 N) (((above_Owe c 0).mono (by decide)).add (Above.tallyAt _ _ _ _ (by decide) (by decide))) _ rfl _ rfl) $$ [HO HcB HatB]
  · isplitr; · iexact Hrec
    isplitl [HcB]; · iexact HcB
    isplitl [HO]; · iexact HO
    iexact HatB
  iintro ⟨HO, HatB, HqT, HqF⟩
  ihave Hav := (avail_of c true hp) $$ [HqT HqF]
  · isplitl [HqT]; · iexact HqT
    iexact HqF
  icases Hav with ⟨Hdst, Hav⟩
  iapply (wp_load_all c (Memref.whole cc0_stg0_0) _ _ xs (rd_whole cc0_stg0_0 _ (by funext a; fin_cases a <;> rfl) _) (View.set_whole _)) $$ Hx
  iintro Hx
  iapply (wp_load_all c xoM _ _ f0 (rd_whole cc0_scratch4 _ (by funext a; fin_cases a <;> rfl) _) (View.set_whole _)) $$ Hxo
  iintro Hxo
  iapply (wp_store_all c xoM _ _ f0 (k0_pay36 xs) (wr_whole cc0_scratch4 _ (by funext a; fin_cases a <;> rfl) _ _) (View.set_whole _)) $$ Hxo
  iintro Hxo
  rw [← hX]
  ihave Ha0 := (anyS_owns c (aM false) 0) $$ Ha0
  icases Ha0 with ⟨%a0, Ha0⟩
  iapply (wp_load_own c _ (aM false) rfl _ _ (0 : Fin 2) rfl) $$ Ha0
  iintro Ha0
  ihave Ha0 := (owns_anyS c (aM false) 0 a0) $$ Ha0
  iapply (wp_store_own c _ (aM false) rfl _ _ (0 : Fin 2) rfl (k0_pay37 (F := F))) $$ Ha0
  iintro Ha0
  rw [← hA]
  ihave Hp := (pos_enter c true hp) $$ Hp
  icases Hp with ⟨Hat, Hp⟩
  ihave #Hr0 := (recs_reached X A K KS (c, some (.inr (true, 0, 0)))) $$ Hrec
  ihave #Hr1 := (recs_reached X A K KS (outN true c, some (.inr (true, 1, 0)))) $$ Hrec
  have hpn : par true (outN true c) = 0 := by rw [par_outN, hp]
  iapply (wp_dsend0 X A K KS c (outN true c) true 0 1 0 0 0 0 (by rw [hp]; decide) (by rw [hpn]; decide) 2 (Owe c 0) _ rfl
    xoM fullShare (X c) (xM true) 0 (pay_enter X A c true hp) (pay_arrive X A c true hp)
    _ (Fin.ext (k0_dev3_eq c)) _ _ rfl (slotM_eq _ _ _ 0 rfl) _ _ (semAt_eq _ _ _ 0 rfl) (semAt_eq _ _ _ 0 rfl)) $$ [Hxo Hdst HO HtS HtR]
  · isplitr; · iexact Hrec
    isplitl [Hxo]; · iexact Hxo
    isplitl [Hdst]; · iexact Hdst
    isplitl [HO]; · iexact HO
    isplitl [HtS]; · iexact HtS
    isplitr; · iexact Hr0
    isplitl [HtR]; · iexact HtR
    iexact Hr1
  iintro ⟨HcS, HO⟩
  unfold at'
  icases Hat with ⟨Hat, -⟩
  iapply (wp_dwait0 X A K KS c true 0 0 0 (by rw [hp]; decide) 0 (by decide) (Owe c 0) ((above_Owe c 0).mono (by decide)) _ (semAt_eq _ _ _ 0 rfl) _ _) $$ [HcS HO Hat]
  · isplitr; · iexact Hrec
    isplitl [HcS]; · iexact HcS
    isplitl [HO]; · iexact HO
    iexact Hat
  iintro ⟨HO, Hat, #Hr, Hxo⟩
  rw [wp_ret]; imodintro
  iapply Hk
  unfold entered
  isplitl [HO]; · iexact HO
  isplitl [Hxo]; · iapply (pay_back X A c true hp); iexact Hxo
  isplitl [Hp Hat]
  · iapply Hp
    isplitl [Hat]; · iexact Hat
    iexact Hr
  isplitl [Hav]; · iexact Hav
  isplitl [Ha0]; · rw [hr0]; iexact Ha0
  isplitl [HatB]; · iexact HatB
  iexact Hx

theorem part11_false (c : Dev nD) (hp : par false c = 1) (xs : Vec F S1x512x1024 .f32) (hX : X c = k0_pay36 xs)
    (hA : A (org c 0) 0 = down (k0_pay38 (F := F)))
    {Q : (Σ' (d0 : Dev nD) (v2 : BitVec 32) (v5 : BitVec 32) (v7 : BitVec 32) (v9 : BitVec 1) (c0_i32_19 : BitVec 32), BitVec 32) → sProp 𝕄} :
    iprop(recs X A K KS ∗ owesE c (Owe c 0 + tallyAt (dcell (outN false c) false 1 0) 2 N + tallyAt (barCell (outN false c)) 1 1 + tallyAt (barCell (outN true c)) 1 1)
        ∗ entry (F := F) c false ∗ pos0 (F := F) c ∗ slotsR (F := F) c true ∗ slotsR (F := F) c false ∗ (∃ f, owns (c : Thread nD τ) xoM fullShare f)
        ∗ owns (c : Thread nD τ) (Memref.whole cc0_stg0_0) fullShare xs)
      ⊢ iprop((∀ v2 v5 v7, entered X A c xs -∗ Q ⟨c, v2, v5, v7, v9 c, 0#32, 15#32⟩)
        -∗ wp frame (wpE (defs₀ (F := F)) 𝒱₀ c none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14) Q) := by
  have hy : k0_cond2 c = 1#1 := (c2 c).mpr hp
  have hn : ¬ k0_cond1 c = 1#1 := fun h => by
    have h' := (c1 c).mp h
    have := par_not false c
    rw [hp] at this; rw [show (!false) = true from rfl, h'] at this; exact absurd this (by decide)
  have hr0 : rg c 0 = true := (rg_eq_iff true c 0).mpr (by have := par_not false c; rw [hp] at this; exact this.symm)
  have hp0 : par true c = 0 := by have := par_not false c; rw [hp] at this; exact this
  rw [k0_part11_eq_skeleton]; unfold k0_part11_skel
  simp only [dif_pos hy, dif_neg hn, semSignalWord, semWaitWord, Prog.lift, Prog.bind_op, Prog.bind_ret, Prog.pure_eq_ret, wp_deviceId]
  unfold entry
  iintro ⟨#Hrec, HO, ⟨Ht1, Ht0, HcB, HatB, HtS, HtR⟩, Hp, HsT, HsF, ⟨%f0, Hxo⟩, Hx⟩ Hk
  ihave HbT' := (barPay_zero c true hp0) $$ HsT
  ihave HbF := (barPay_one c false hp) $$ HsF
  icases HbT' with ⟨HbT, Ha0⟩
  iapply (wp_barsig X A K KS c (outN true c) 1 (Owe c 0 + tallyAt (dcell (outN false c) false 1 0) 2 N + tallyAt (barCell (outN false c)) 1 1) (by decide) _ (Fin.ext (k0_dev1_eq c)) _ rfl) $$ [HO Ht1 HbF]
  · isplitr; · iexact Hrec
    isplitl [HO]; · iexact HO
    isplitl [Ht1]; · iexact Ht1
    iapply (Entails.of_eq (barPay_left X A c)); iexact HbF
  iintro HO
  iapply (wp_barsig X A K KS c (outN false c) 0 (Owe c 0 + tallyAt (dcell (outN false c) false 1 0) 2 N) (by decide) _ (Fin.ext (k0_dev2_eq c)) _ rfl) $$ [HO Ht0 HbT]
  · isplitr; · iexact Hrec
    isplitl [HO]; · iexact HO
    isplitl [Ht0]; · iexact Ht0
    iapply (Entails.of_eq (barPay_right X A c)); iexact HbT
  iintro HO
  iapply (wp_barwait X A K KS c (Owe c 0 + tallyAt (dcell (outN false c) false 1 0) 2 N) (((above_Owe c 0).mono (by decide)).add (Above.tallyAt _ _ _ _ (by decide) (by decide))) _ rfl _ rfl) $$ [HO HcB HatB]
  · isplitr; · iexact Hrec
    isplitl [HcB]; · iexact HcB
    isplitl [HO]; · iexact HO
    iexact HatB
  iintro ⟨HO, HatB, HqT, HqF⟩
  ihave Hav := (avail_of c false hp) $$ [HqT HqF]
  · isplitl [HqF]; · iexact HqF
    iexact HqT
  icases Hav with ⟨Hdst, Hav⟩
  iapply (wp_load_all c (Memref.whole cc0_stg0_0) _ _ xs (rd_whole cc0_stg0_0 _ (by funext a; fin_cases a <;> rfl) _) (View.set_whole _)) $$ Hx
  iintro Hx
  iapply (wp_load_all c xoM _ _ f0 (rd_whole cc0_scratch4 _ (by funext a; fin_cases a <;> rfl) _) (View.set_whole _)) $$ Hxo
  iintro Hxo
  iapply (wp_store_all c xoM _ _ f0 (k0_pay36 xs) (wr_whole cc0_scratch4 _ (by funext a; fin_cases a <;> rfl) _ _) (View.set_whole _)) $$ Hxo
  iintro Hxo
  rw [← hX]
  ihave Ha0 := (anyS_owns c (aM true) 0) $$ Ha0
  icases Ha0 with ⟨%a0, Ha0⟩
  iapply (wp_load_own c _ (aM true) rfl _ _ (0 : Fin 2) rfl) $$ Ha0
  iintro Ha0
  ihave Ha0 := (owns_anyS c (aM true) 0 a0) $$ Ha0
  iapply (wp_store_own c _ (aM true) rfl _ _ (0 : Fin 2) rfl (k0_pay38 (F := F))) $$ Ha0
  iintro Ha0
  rw [← hA]
  ihave Hp := (pos_enter c false hp) $$ Hp
  icases Hp with ⟨Hat, Hp⟩
  ihave #Hr0 := (recs_reached X A K KS (c, some (.inr (false, 0, 0)))) $$ Hrec
  ihave #Hr1 := (recs_reached X A K KS (outN false c, some (.inr (false, 1, 0)))) $$ Hrec
  have hpn : par false (outN false c) = 0 := by rw [par_outN, hp]
  iapply (wp_dsend0 X A K KS c (outN false c) false 0 1 0 0 0 0 (by rw [hp]; decide) (by rw [hpn]; decide) 2 (Owe c 0) _ rfl
    xoM fullShare (X c) (xM false) 0 (pay_enter X A c false hp) (pay_arrive X A c false hp)
    _ (Fin.ext (k0_dev4_eq c)) _ _ rfl (slotM_eq _ _ _ 0 rfl) _ _ (semAt_eq _ _ _ 0 rfl) (semAt_eq _ _ _ 0 rfl)) $$ [Hxo Hdst HO HtS HtR]
  · isplitr; · iexact Hrec
    isplitl [Hxo]; · iexact Hxo
    isplitl [Hdst]; · iexact Hdst
    isplitl [HO]; · iexact HO
    isplitl [HtS]; · iexact HtS
    isplitr; · iexact Hr0
    isplitl [HtR]; · iexact HtR
    iexact Hr1
  iintro ⟨HcS, HO⟩
  unfold at'
  icases Hat with ⟨Hat, -⟩
  iapply (wp_dwait0 X A K KS c false 0 0 0 (by rw [hp]; decide) 0 (by decide) (Owe c 0) ((above_Owe c 0).mono (by decide)) _ (semAt_eq _ _ _ 0 rfl) _ _) $$ [HcS HO Hat]
  · isplitr; · iexact Hrec
    isplitl [HcS]; · iexact HcS
    isplitl [HO]; · iexact HO
    iexact Hat
  iintro ⟨HO, Hat, #Hr, Hxo⟩
  rw [wp_ret]; imodintro
  iapply Hk
  unfold entered
  isplitl [HO]; · iexact HO
  isplitl [Hxo]; · iapply (pay_back X A c false hp); iexact Hxo
  isplitl [Hp Hat]
  · iapply Hp
    isplitl [Hat]; · iexact Hat
    iexact Hr
  isplitl [Hav]; · iexact Hav
  isplitl [Ha0]; · rw [hr0]; iexact Ha0
  isplitl [HatB]; · iexact HatB
  iexact Hx

end Cert.KernelIdeal.Mesh
-- ==== Proof.PartLI.lean ====
/- The step of a device on the left ring, part by part. -/
module

public import proofs.«01_k».proof.Proof.ValI

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → Vec F S512x1024 .bf16) (A : Dev nD → ℕ → Vec F S512x1024 .bf16)
variable (K : Dev nD × CI → ℕ) (KS : Key → ℕ)

theorem part1_run (c : Dev nD) (t : Fin k0_t1_loop.trips) (hg : k0_cond3 c t = 1#1) (hb : rg c t.val = true) (v5 v7 : BitVec 32)
    (w : Fin 4 → Vec F S1024x1024 .f32) {Q : (Σ' (v184 : BitVec 32) (v209 : FVec F S512x1024 .f32) (v212 : FVec F S512x1024 .f32) (v214 : FVec F S1024x1024 .f32), FVec F S512x1024 .f32) → sProp 𝕄} :
    iprop(recs X A K KS ∗ owesE c (Owe c t.val) ∗ crPos (F := F) c (rg c t.val) (cw (rg c t.val) c t.val) ∗ avail c t.val
        ∗ cred (tallyAt (dcell c (rg c t.val) 1 (ks 1 t.val)) (t.val + 2) N) ∗ tokX (F := F) c t.val ∗ pos c (fun _ => t.val)
        ∗ owns (c : Thread nD τ) (Memref.whole cc0_stg1_0) fullShare (w 0) ∗ owns (c : Thread nD τ) (Memref.whole cc0_stg3_0) fullShare (w 2))
      ⊢ iprop(((owesE c (Owe c (t.val + 1) + ocr c t.val + oa c t.val) ∗ crPos (F := F) c (rg c t.val) (cw (rg c t.val) c (t.val + 1))
            ∗ anyS (F := F) (nx c t.val) (aM (rg c t.val)) (sl (t.val + 1)) ∗ reached (ER (F := F)) (dcell (nx c t.val) (rg c t.val) 3 (sl (t.val + 1))) (t.val / 4)
            ∗ reached (ER (F := F)) (dcell c (rg c t.val) 1 (sl t.val)) (t.val / 4 + 1)
            ∗ owns (c : Thread nD τ) (slotM (xM (rg c t.val)) (sl t.val)) (qx t.val) (X (org c t.val)) ∗ credX (F := F) c t.val
            ∗ pos c (Function.update (fun _ => t.val) 1 (t.val + 1))
            ∗ owns (c : Thread nD τ) (Memref.whole cc0_stg1_0) fullShare (w 0) ∗ owns (c : Thread nD τ) (Memref.whole cc0_stg3_0) fullShare (w 2))
          -∗ Q ⟨Scalar.remsi (Scalar.divsi (Scf.iv 0#32 1#32 t.val) 2#32) 2#32, k0_pay4 (up (X (org c t.val))), k0_pay5 (up (X (org c t.val))) (w 0), k0_pay6 (w 2), constant S512x1024 .f32 0x00000000#32⟩)
        -∗ wp frame (wpE (defs₀ (F := F)) 𝒱₀ c none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v5 v7 t (Scf.iv 0#32 1#32 t.val) hg) Q) := by
  have hh : t.val < 15 := lt_of_lt_of_le t.isLt k0_t1_abs.2.1
  rw [k0_part1_eq_skeleton]; unfold k0_part1_skel
  simp only [semSignalWord, semWaitWord, Prog.lift, Prog.bind_op, Prog.bind_ret, Prog.pure_eq_ret]
  iintro ⟨#Hrec, HO, Hcp, Hav, Hc1, HtX, Hp, Hw0, Hw2⟩ Hk
  rw [dite_next, wp_bind]
  iapply (wp_credit X A K KS c t.val hh (cond4 t) _ (fun x => ⟨_, _, rfl, by rw [hb]; rfl, rfl⟩)) $$ [HO Hcp Hav]
  · isplitr; · iexact Hrec
    isplitl [HO]; · iexact HO
    isplitl [Hcp]; · iexact Hcp
    iexact Hav
  unfold target
  iintro ⟨HO, Hcp, HgX, HgA, #Hr1, #Hr3⟩
  iapply (wp_dwait X A K KS c t.val 1 (by unfold kl; exact decide_eq_true (by omega)) (by omega) (t.val + 2) (by omega) _ (above_Owe c t.val) (fun _ => t.val) rfl
    _ (by rw [hb]; exact semAt_eq _ _ _ _ (o1 t))) $$ [HO Hc1 Hp]
  · isplitr; · iexact Hrec
    isplitl [Hc1]; · iexact Hc1
    isplitl [HO]; · iexact HO
    iexact Hp
  rw [pay1]
  iintro ⟨HO, Hp, #Hrx, Hx⟩
  rw [Owe_step c t.val hh]
  rw [dite_next, wp_bind]
  iapply (wp_sendx_if X A K KS c t.val hh (cond5 t) (Owe c (t.val + 1) + ocr c t.val + oa c t.val) (Function.update (fun _ => t.val) 1 (t.val + 1)) rfl _ (fun x => ⟨_, _, _, _, _, _, _, _, _, rfl,
    by rw [hb]; exact slotM_eq _ _ _ _ (o5 t), (d5 c _).trans (by rw [nx, hb]), by rw [hb]; exact slotM_eq _ _ _ _ (o4 t),
    by rw [hb]; exact semAt_eq _ _ _ _ (o3 t), by rw [hb]; exact semAt_eq _ _ _ _ (o3 t)⟩)) $$ [Hx HgX HO HtX Hp]
  · isplitr; · iexact Hrec
    isplitl [Hx]; · iexact Hx
    isplitl [HgX]; · iexact HgX
    isplitr; · iexact Hr1
    isplitl [HO]; · iexact HO
    isplitl [HtX]; · iexact HtX
    iexact Hp
  iintro ⟨Hx, HcX, HO, Hp⟩
  iapply (wp_load_own c _ (xM (rg c t.val)) (by rw [hb]) _ _ (sl t.val) (o6 t)) $$ Hx
  iintro Hx
  iapply (wp_load_all c (Memref.whole cc0_stg1_0) _ _ (w 0) (rd_whole cc0_stg1_0 _ (by funext a; fin_cases a <;> rfl) _) (View.set_whole _)) $$ Hw0
  iintro Hw0
  iapply (wp_load_all c (Memref.whole cc0_stg3_0) _ _ (w 2) (rd_whole cc0_stg3_0 _ (by funext a; fin_cases a <;> rfl) _) (View.set_whole _)) $$ Hw2
  iintro Hw2
  rw [wp_ret]; imodintro
  iapply Hk
  isplitl [HO]; · iexact HO
  isplitl [Hcp]; · iexact Hcp
  isplitl [HgA]; · iexact HgA
  isplitr; · iexact Hr3
  isplitr; · iexact Hrx
  isplitl [Hx]; · iexact Hx
  isplitl [HcX]; · iexact HcX
  isplitl [Hp]; · iexact Hp
  isplitl [Hw0]; · iexact Hw0
  iexact Hw2

theorem part2_run (c : Dev nD) (v209 v212 : FVec F S512x1024 .f32) (v214 : FVec F S1024x1024 .f32) (z : FVec F S512x1024 .f32) (V : Vec F S1024x1024 .f32)
    {Q : (Σ' (v215 : FVec F S512x1024 .f32) (v218 : FVec F S512x1024 .f32) (v234 : FVec F S512x128 .f32) (v250 : FVec F S512x128 .f32) (v255 : FVec F S512x512 .f32), FVec F S512x512 .f32) → sProp 𝕄} :
    (owns (c : Thread nD τ) (Memref.whole cc0_stg4_0) fullShare V : sProp 𝕄)
      ⊢ iprop((owns (c : Thread nD τ) (Memref.whole cc0_stg4_0) fullShare V -∗ Q ⟨k0_pay7 v209 v214 z, k0_pay8 v209 V, k0_pay9 v209 v212 v214 z V, k0_pay10 v209 v212 v214 z V, k0_pay11 v209 v212 v214 z, k0_pay12 v209 v212 v214 z⟩)
        -∗ wp frame (wpE (defs₀ (F := F)) 𝒱₀ c none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 v209 v212 v214 z) Q) := by
  rw [k0_part2_eq_skeleton]; unfold k0_part2_skel
  simp only [Prog.lift, Prog.bind_op, Prog.bind_ret, Prog.pure_eq_ret]
  iintro H Hk
  iapply (wp_load_all c (Memref.whole cc0_stg4_0) _ _ V (rd_whole cc0_stg4_0 _ (by funext a; fin_cases a <;> rfl) _) (View.set_whole _)) $$ H
  iintro H
  rw [wp_ret]; imodintro
  iapply Hk; iexact H

theorem part3_run (c : Dev nD) (v212 v215 v218 : FVec F S512x1024 .f32) (v255 v258 : FVec F S512x512 .f32)
    {Q : (Σ' (v266 : FVec F S512x128 .f32) (v282 : FVec F S512x128 .f32) (v298 : FVec F S512x128 .f32), FVec F S512x512 .f32) → sProp 𝕄} :
    Q ⟨k0_pay13 v218 v255 v258, k0_pay14 v212 v215 v218, k0_pay15 v212 v215 v218, k0_pay16 v212 v215⟩
      ⊢ wp frame (wpE (defs₀ (F := F)) 𝒱₀ c none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 v212 v215 v218 v255 v258) Q := by
  rw [k0_part3_eq_skeleton]; unfold k0_part3_skel
  simp only [Prog.pure_eq_ret]
  iintro H
  rw [wp_ret]; imodintro
  iexact H

theorem part4_run (c : Dev nD) (v212 v215 v218 : FVec F S512x1024 .f32) (v234 v250 v266 v282 v298 : FVec F S512x128 .f32) (v303 : FVec F S512x512 .f32) (V : Vec F S1024x1024 .f32)
    {Q : (Σ' (v347 : FVec F S512x1024 .f32), FVec F S1024x1024 .f32) → sProp 𝕄} :
    (owns (c : Thread nD τ) (Memref.whole cc0_stg2_0) fullShare V : sProp 𝕄)
      ⊢ iprop((owns (c : Thread nD τ) (Memref.whole cc0_stg2_0) fullShare V -∗ Q ⟨k0_pay17 v212 v215 v218 v234 v250 v266 v282 v298 v303, k0_pay18 V⟩)
        -∗ wp frame (wpE (defs₀ (F := F)) 𝒱₀ c none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 v212 v215 v218 v234 v250 v266 v282 v298 v303) Q) := by
  rw [k0_part4_eq_skeleton]; unfold k0_part4_skel
  simp only [Prog.lift, Prog.bind_op, Prog.bind_ret, Prog.pure_eq_ret]
  iintro H Hk
  iapply (wp_load_all c (Memref.whole cc0_stg2_0) _ _ V (rd_whole cc0_stg2_0 _ (by funext a; fin_cases a <;> rfl) _) (View.set_whole _)) $$ H
  iintro H
  rw [wp_ret]; imodintro
  iapply Hk; iexact H

theorem part5_run (c : Dev nD) (t : Fin k0_t1_loop.trips) (hg : k0_cond3 c t = 1#1) (hb : rg c t.val = true) (v5 v7 v184 : BitVec 32)
    (v347 : FVec F S512x1024 .f32) (v349 : FVec F S1024x1024 .f32) {Q : BitVec 1 → sProp 𝕄}
    (hA : A (org c t.val) (t.val + 1) = down (k0_pay19 v347 v349 (up (A (org c t.val) t.val)))) :
    iprop(recs X A K KS ∗ owesE c (Owe c (t.val + 1) + ocr c t.val + oa c t.val) ∗ anyS (F := F) (nx c t.val) (aM (rg c t.val)) (sl (t.val + 1))
        ∗ reached (ER (F := F)) (dcell (nx c t.val) (rg c t.val) 3 (sl (t.val + 1))) (t.val / 4)
        ∗ owns (c : Thread nD τ) (slotM (xM (rg c t.val)) (sl t.val)) (qx t.val) (X (org c t.val)) ∗ credX (F := F) c t.val
        ∗ pos c (Function.update (fun _ => t.val) 1 (t.val + 1)) ∗ inA A c t.val ∗ tokA (F := F) c t.val)
      ⊢ iprop((∀ v, (owesE c (Owe c (t.val + 1) + ocr c t.val) ∗ anyS (F := F) c (xM (rg c t.val)) (sl t.val) ∗ anyS (F := F) c (aM (rg c t.val)) (sl t.val)
            ∗ reached (ER (F := F)) (dcell c (rg c t.val) 3 (sl t.val)) ((t.val + 3) / 4) ∗ pos c (fun _ => t.val + 1)) -∗ Q v)
        -∗ wp frame (wpE (defs₀ (F := F)) 𝒱₀ c none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v5 v7 t (Scf.iv 0#32 1#32 t.val) hg v184 v347 v349) Q) := by
  have hh : t.val < 15 := lt_of_lt_of_le t.isLt k0_t1_abs.2.1
  have hO1 : Above (t.val + 2) (Owe c (t.val + 1) + ocr c t.val) := ((above_Owe c (t.val + 1)).mono (by omega)).add (above_ocr c t.val hh)
  rw [k0_part5_eq_skeleton]; unfold k0_part5_skel
  simp only [semSignalWord, semWaitWord, Prog.lift, Prog.bind_op, Prog.bind_ret, Prog.pure_eq_ret]
  iintro ⟨#Hrec, HO, HgA, #Hr3, Hx, HcX, Hp, HiA, HtA⟩ Hk
  rw [dite_next, wp_bind]
  iapply (wp_waitra_if X A K KS c t.val hh (cond6 t) _ (hO1.add (above_oa c t.val hh)) (Function.update (fun _ => t.val) 1 (t.val + 1)) rfl _
    (fun x => ⟨_, _, _, _, _, rfl, by rw [hb]; exact semAt_eq _ _ _ _ (o7 t)⟩)) $$ [HO HiA Hp]
  · isplitr; · iexact Hrec
    isplitl [HiA]; · iexact HiA
    isplitl [HO]; · iexact HO
    iexact Hp
  iintro ⟨Ha, HO, Hp, #Hra⟩
  iapply (wp_load_own c _ (aM (rg c t.val)) (by rw [hb]) _ _ (sl t.val) (o6 t)) $$ Ha
  iintro Ha
  iapply (wp_load_own c _ (aM (rg c t.val)) (by rw [hb]) _ _ (sl t.val) (o6 t)) $$ Ha
  iintro Ha
  ihave Ha' := (owns_anyS c _ _ _) $$ Ha
  iapply (wp_store_own c _ (aM (rg c t.val)) (by rw [hb]) _ _ (sl t.val) (o6 t)) $$ Ha'
  iintro Ha
  rw [← hA]
  unfold tokA
  icases HtA with ⟨Ht2, Ht3⟩
  ihave Hp' := (pos_reached c _ 2 t.val rfl (by unfold kl; exact decide_eq_true (by omega)) (by omega)) $$ Hp
  icases Hp' with ⟨#Hr2, Hp⟩
  iapply (wp_dsend X A K KS c t.val 2 3 (by unfold kl; exact decide_eq_true (by omega)) (by unfold kl; exact decide_eq_true (by omega)) hh (t.val + 3)
    (Owe c (t.val + 1) + ocr c t.val) (Owe c (t.val + 1) + ocr c t.val + oa c t.val) rfl (slotM (aM (rg c t.val)) (sl t.val)) fullShare (A (org c t.val) (t.val + 1)) (aM (rg c t.val))
    (pay2 X A c t.val) (by
      have e := pay3 X A (nx c t.val) (t.val + 1) (by omega)
      rw [rg_outN (rg c t.val) c t.val, org_outN c t.val hh] at e
      rw [← e]) _ ((d6 c _).trans (by rw [nx, hb])) _ _ (by rw [hb]; exact slotM_eq _ _ _ _ (o2 t)) (by rw [hb]; exact slotM_eq _ _ _ _ (o10 t)) _ _
      (by rw [hb]; exact semAt_eq _ _ _ _ (o9 t)) (by rw [hb]; exact semAt_eq _ _ _ _ (o9 t))) $$ [Ha HgA HO Ht2 Ht3]
  · isplitr; · iexact Hrec
    isplitl [Ha]; · iexact Ha
    isplitl [HgA]; · iexact HgA
    isplitl [HO]; · iexact HO
    isplitl [Ht2]; · iexact Ht2
    isplitr; · iexact Hr2
    isplitl [Ht3]; · iexact Ht3
    iexact Hr3
  iintro ⟨HcA, HO⟩
  rw [dite_next, wp_bind]
  iapply (wp_waitsx_if X A K KS c t.val hh (cond7 t) _ (hO1.mono (by omega)) (Function.update (Function.update (fun _ => t.val) 1 (t.val + 1)) 3 (t.val + 1)) rfl _
    (fun x => ⟨_, _, _, _, _, rfl, by rw [hb]; exact semAt_eq _ _ _ _ (o11 t)⟩)) $$ [HcX Hx HO Hp]
  · isplitr; · iexact Hrec
    isplitl [HcX]; · iexact HcX
    isplitl [Hx]; · iexact Hx
    isplitl [HO]; · iexact HO
    iexact Hp
  iintro ⟨Hx, HO, Hp⟩
  iapply (wp_dwait X A K KS c t.val 2 (by unfold kl; exact decide_eq_true (by omega)) (by omega) 0 (by omega) _ (hO1.mono (by omega)) (Function.update (Function.update (Function.update (fun _ => t.val) 1 (t.val + 1)) 3 (t.val + 1)) 0 (t.val + 1)) rfl
    _ (by rw [hb]; exact semAt_eq _ _ _ _ (o9 t))) $$ [HO HcA Hp]
  · isplitr; · iexact Hrec
    isplitl [HcA]; · iexact HcA
    isplitl [HO]; · iexact HO
    iexact Hp
  rw [pay2]
  iintro ⟨HO, Hp, -, Ha⟩
  have hpos : Function.update (Function.update (Function.update (Function.update (fun _ : Fin 4 => t.val) 1 (t.val + 1)) 3 (t.val + 1)) 0 (t.val + 1)) 2 (t.val + 1) = fun _ => t.val + 1 := by
    funext i; fin_cases i <;> rfl
  rw [hpos, wp_ret]; imodintro
  iapply Hk
  isplitl [HO]; · iexact HO
  isplitl [Hx]; · iapply (owns_anyS c _ _ _); iexact Hx
  isplitl [Ha]; · iapply (owns_anyS c _ _ _); iexact Ha
  isplitr; · iexact Hra
  iexact Hp

end Cert.KernelIdeal.Mesh
-- ==== Proof.PartRI.lean ====
/- The step of a device on the right ring, part by part. -/
module

public import proofs.«01_k».proof.Proof.ValI

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → Vec F S512x1024 .bf16) (A : Dev nD → ℕ → Vec F S512x1024 .bf16)
variable (K : Dev nD × CI → ℕ) (KS : Key → ℕ)

theorem part6_run (c : Dev nD) (t : Fin k0_t1_loop.trips) (hg : k0_cond9 c t = 1#1) (hb : rg c t.val = false) (v5 v7 : BitVec 32)
    (w : Fin 4 → Vec F S1024x1024 .f32) {Q : (Σ' (v184 : BitVec 32) (v209 : FVec F S512x1024 .f32) (v212 : FVec F S512x1024 .f32) (v214 : FVec F S1024x1024 .f32), FVec F S512x1024 .f32) → sProp 𝕄} :
    iprop(recs X A K KS ∗ owesE c (Owe c t.val) ∗ crPos (F := F) c (rg c t.val) (cw (rg c t.val) c t.val) ∗ avail c t.val
        ∗ cred (tallyAt (dcell c (rg c t.val) 1 (ks 1 t.val)) (t.val + 2) N) ∗ tokX (F := F) c t.val ∗ pos c (fun _ => t.val)
        ∗ owns (c : Thread nD τ) (Memref.whole cc0_stg1_0) fullShare (w 0) ∗ owns (c : Thread nD τ) (Memref.whole cc0_stg3_0) fullShare (w 2))
      ⊢ iprop(((owesE c (Owe c (t.val + 1) + ocr c t.val + oa c t.val) ∗ crPos (F := F) c (rg c t.val) (cw (rg c t.val) c (t.val + 1))
            ∗ anyS (F := F) (nx c t.val) (aM (rg c t.val)) (sl (t.val + 1)) ∗ reached (ER (F := F)) (dcell (nx c t.val) (rg c t.val) 3 (sl (t.val + 1))) (t.val / 4)
            ∗ reached (ER (F := F)) (dcell c (rg c t.val) 1 (sl t.val)) (t.val / 4 + 1)
            ∗ owns (c : Thread nD τ) (slotM (xM (rg c t.val)) (sl t.val)) (qx t.val) (X (org c t.val)) ∗ credX (F := F) c t.val
            ∗ pos c (Function.update (fun _ => t.val) 1 (t.val + 1))
            ∗ owns (c : Thread nD τ) (Memref.whole cc0_stg1_0) fullShare (w 0) ∗ owns (c : Thread nD τ) (Memref.whole cc0_stg3_0) fullShare (w 2))
          -∗ Q ⟨Scalar.remsi (Scalar.divsi (Scf.iv 0#32 1#32 t.val) 2#32) 2#32, k0_pay20 (up (X (org c t.val))), k0_pay21 (up (X (org c t.val))) (w 0), k0_pay22 (w 2), constant S512x1024 .f32 0x00000000#32⟩)
        -∗ wp frame (wpE (defs₀ (F := F)) 𝒱₀ c none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v5 v7 t (Scf.iv 0#32 1#32 t.val) hg) Q) := by
  have hh : t.val < 15 := lt_of_lt_of_le t.isLt k0_t1_abs.2.1
  rw [k0_part6_eq_skeleton]; unfold k0_part6_skel
  simp only [semSignalWord, semWaitWord, Prog.lift, Prog.bind_op, Prog.bind_ret, Prog.pure_eq_ret]
  iintro ⟨#Hrec, HO, Hcp, Hav, Hc1, HtX, Hp, Hw0, Hw2⟩ Hk
  rw [dite_next, wp_bind]
  iapply (wp_credit X A K KS c t.val hh (cond4 t) _ (fun x => ⟨_, _, rfl, by rw [hb]; rfl, rfl⟩)) $$ [HO Hcp Hav]
  · isplitr; · iexact Hrec
    isplitl [HO]; · iexact HO
    isplitl [Hcp]; · iexact Hcp
    iexact Hav
  unfold target
  iintro ⟨HO, Hcp, HgX, HgA, #Hr1, #Hr3⟩
  iapply (wp_dwait X A K KS c t.val 1 (by unfold kl; exact decide_eq_true (by omega)) (by omega) (t.val + 2) (by omega) _ (above_Owe c t.val) (fun _ => t.val) rfl
    _ (by rw [hb]; exact semAt_eq _ _ _ _ (o14 t))) $$ [HO Hc1 Hp]
  · isplitr; · iexact Hrec
    isplitl [Hc1]; · iexact Hc1
    isplitl [HO]; · iexact HO
    iexact Hp
  rw [pay1]
  iintro ⟨HO, Hp, #Hrx, Hx⟩
  rw [Owe_step c t.val hh]
  rw [dite_next, wp_bind]
  iapply (wp_sendx_if X A K KS c t.val hh (cond11 t) (Owe c (t.val + 1) + ocr c t.val + oa c t.val) (Function.update (fun _ => t.val) 1 (t.val + 1)) rfl _ (fun x => ⟨_, _, _, _, _, _, _, _, _, rfl,
    by rw [hb]; exact slotM_eq _ _ _ _ (o18 t), (d8 c _).trans (by rw [nx, hb]), by rw [hb]; exact slotM_eq _ _ _ _ (o17 t),
    by rw [hb]; exact semAt_eq _ _ _ _ (o16 t), by rw [hb]; exact semAt_eq _ _ _ _ (o16 t)⟩)) $$ [Hx HgX HO HtX Hp]
  · isplitr; · iexact Hrec
    isplitl [Hx]; · iexact Hx
    isplitl [HgX]; · iexact HgX
    isplitr; · iexact Hr1
    isplitl [HO]; · iexact HO
    isplitl [HtX]; · iexact HtX
    iexact Hp
  iintro ⟨Hx, HcX, HO, Hp⟩
  iapply (wp_load_own c _ (xM (rg c t.val)) (by rw [hb]) _ _ (sl t.val) (o19 t)) $$ Hx
  iintro Hx
  iapply (wp_load_all c (Memref.whole cc0_stg1_0) _ _ (w 0) (rd_whole cc0_stg1_0 _ (by funext a; fin_cases a <;> rfl) _) (View.set_whole _)) $$ Hw0
  iintro Hw0
  iapply (wp_load_all c (Memref.whole cc0_stg3_0) _ _ (w 2) (rd_whole cc0_stg3_0 _ (by funext a; fin_cases a <;> rfl) _) (View.set_whole _)) $$ Hw2
  iintro Hw2
  rw [wp_ret]; imodintro
  iapply Hk
  isplitl [HO]; · iexact HO
  isplitl [Hcp]; · iexact Hcp
  isplitl [HgA]; · iexact HgA
  isplitr; · iexact Hr3
  isplitr; · iexact Hrx
  isplitl [Hx]; · iexact Hx
  isplitl [HcX]; · iexact HcX
  isplitl [Hp]; · iexact Hp
  isplitl [Hw0]; · iexact Hw0
  iexact Hw2

theorem part7_run (c : Dev nD) (v209 v212 : FVec F S512x1024 .f32) (v214 : FVec F S1024x1024 .f32) (z : FVec F S512x1024 .f32) (V : Vec F S1024x1024 .f32)
    {Q : (Σ' (v215 : FVec F S512x1024 .f32) (v218 : FVec F S512x1024 .f32) (v234 : FVec F S512x128 .f32) (v250 : FVec F S512x128 .f32) (v255 : FVec F S512x512 .f32), FVec F S512x512 .f32) → sProp 𝕄} :
    (owns (c : Thread nD τ) (Memref.whole cc0_stg4_0) fullShare V : sProp 𝕄)
      ⊢ iprop((owns (c : Thread nD τ) (Memref.whole cc0_stg4_0) fullShare V -∗ Q ⟨k0_pay23 v209 v214 z, k0_pay24 v209 V, k0_pay25 v209 v212 v214 z V, k0_pay26 v209 v212 v214 z V, k0_pay27 v209 v212 v214 z, k0_pay28 v209 v212 v214 z⟩)
        -∗ wp frame (wpE (defs₀ (F := F)) 𝒱₀ c none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 v209 v212 v214 z) Q) := by
  rw [k0_part7_eq_skeleton]; unfold k0_part7_skel
  simp only [Prog.lift, Prog.bind_op, Prog.bind_ret, Prog.pure_eq_ret]
  iintro H Hk
  iapply (wp_load_all c (Memref.whole cc0_stg4_0) _ _ V (rd_whole cc0_stg4_0 _ (by funext a; fin_cases a <;> rfl) _) (View.set_whole _)) $$ H
  iintro H
  rw [wp_ret]; imodintro
  iapply Hk; iexact H

theorem part8_run (c : Dev nD) (v212 v215 v218 : FVec F S512x1024 .f32) (v255 v258 : FVec F S512x512 .f32)
    {Q : (Σ' (v266 : FVec F S512x128 .f32) (v282 : FVec F S512x128 .f32) (v298 : FVec F S512x128 .f32), FVec F S512x512 .f32) → sProp 𝕄} :
    Q ⟨k0_pay29 v218 v255 v258, k0_pay30 v212 v215 v218, k0_pay31 v212 v215 v218, k0_pay32 v212 v215⟩
      ⊢ wp frame (wpE (defs₀ (F := F)) 𝒱₀ c none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 v212 v215 v218 v255 v258) Q := by
  rw [k0_part8_eq_skeleton]; unfold k0_part8_skel
  simp only [Prog.pure_eq_ret]
  iintro H
  rw [wp_ret]; imodintro
  iexact H

theorem part9_run (c : Dev nD) (v212 v215 v218 : FVec F S512x1024 .f32) (v234 v250 v266 v282 v298 : FVec F S512x128 .f32) (v303 : FVec F S512x512 .f32) (V : Vec F S1024x1024 .f32)
    {Q : (Σ' (v347 : FVec F S512x1024 .f32), FVec F S1024x1024 .f32) → sProp 𝕄} :
    (owns (c : Thread nD τ) (Memref.whole cc0_stg2_0) fullShare V : sProp 𝕄)
      ⊢ iprop((owns (c : Thread nD τ) (Memref.whole cc0_stg2_0) fullShare V -∗ Q ⟨k0_pay33 v212 v215 v218 v234 v250 v266 v282 v298 v303, k0_pay34 V⟩)
        -∗ wp frame (wpE (defs₀ (F := F)) 𝒱₀ c none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 v212 v215 v218 v234 v250 v266 v282 v298 v303) Q) := by
  rw [k0_part9_eq_skeleton]; unfold k0_part9_skel
  simp only [Prog.lift, Prog.bind_op, Prog.bind_ret, Prog.pure_eq_ret]
  iintro H Hk
  iapply (wp_load_all c (Memref.whole cc0_stg2_0) _ _ V (rd_whole cc0_stg2_0 _ (by funext a; fin_cases a <;> rfl) _) (View.set_whole _)) $$ H
  iintro H
  rw [wp_ret]; imodintro
  iapply Hk; iexact H

theorem part10_run (c : Dev nD) (t : Fin k0_t1_loop.trips) (hg : k0_cond9 c t = 1#1) (hb : rg c t.val = false) (v5 v7 v184 : BitVec 32)
    (v347 : FVec F S512x1024 .f32) (v349 : FVec F S1024x1024 .f32) {Q : BitVec 1 → sProp 𝕄}
    (hA : A (org c t.val) (t.val + 1) = down (k0_pay35 v347 v349 (up (A (org c t.val) t.val)))) :
    iprop(recs X A K KS ∗ owesE c (Owe c (t.val + 1) + ocr c t.val + oa c t.val) ∗ anyS (F := F) (nx c t.val) (aM (rg c t.val)) (sl (t.val + 1))
        ∗ reached (ER (F := F)) (dcell (nx c t.val) (rg c t.val) 3 (sl (t.val + 1))) (t.val / 4)
        ∗ owns (c : Thread nD τ) (slotM (xM (rg c t.val)) (sl t.val)) (qx t.val) (X (org c t.val)) ∗ credX (F := F) c t.val
        ∗ pos c (Function.update (fun _ => t.val) 1 (t.val + 1)) ∗ inA A c t.val ∗ tokA (F := F) c t.val)
      ⊢ iprop((∀ v, (owesE c (Owe c (t.val + 1) + ocr c t.val) ∗ anyS (F := F) c (xM (rg c t.val)) (sl t.val) ∗ anyS (F := F) c (aM (rg c t.val)) (sl t.val)
            ∗ reached (ER (F := F)) (dcell c (rg c t.val) 3 (sl t.val)) ((t.val + 3) / 4) ∗ pos c (fun _ => t.val + 1)) -∗ Q v)
        -∗ wp frame (wpE (defs₀ (F := F)) 𝒱₀ c none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v5 v7 t (Scf.iv 0#32 1#32 t.val) hg v184 v347 v349) Q) := by
  have hh : t.val < 15 := lt_of_lt_of_le t.isLt k0_t1_abs.2.1
  have hO1 : Above (t.val + 2) (Owe c (t.val + 1) + ocr c t.val) := ((above_Owe c (t.val + 1)).mono (by omega)).add (above_ocr c t.val hh)
  rw [k0_part10_eq_skeleton]; unfold k0_part10_skel
  simp only [semSignalWord, semWaitWord, Prog.lift, Prog.bind_op, Prog.bind_ret, Prog.pure_eq_ret]
  iintro ⟨#Hrec, HO, HgA, #Hr3, Hx, HcX, Hp, HiA, HtA⟩ Hk
  rw [dite_next, wp_bind]
  iapply (wp_waitra_if X A K KS c t.val hh (cond12 t) _ (hO1.add (above_oa c t.val hh)) (Function.update (fun _ => t.val) 1 (t.val + 1)) rfl _
    (fun x => ⟨_, _, _, _, _, rfl, by rw [hb]; exact semAt_eq _ _ _ _ (o20 t)⟩)) $$ [HO HiA Hp]
  · isplitr; · iexact Hrec
    isplitl [HiA]; · iexact HiA
    isplitl [HO]; · iexact HO
    iexact Hp
  iintro ⟨Ha, HO, Hp, #Hra⟩
  iapply (wp_load_own c _ (aM (rg c t.val)) (by rw [hb]) _ _ (sl t.val) (o19 t)) $$ Ha
  iintro Ha
  iapply (wp_load_own c _ (aM (rg c t.val)) (by rw [hb]) _ _ (sl t.val) (o19 t)) $$ Ha
  iintro Ha
  ihave Ha' := (owns_anyS c _ _ _) $$ Ha
  iapply (wp_store_own c _ (aM (rg c t.val)) (by rw [hb]) _ _ (sl t.val) (o19 t)) $$ Ha'
  iintro Ha
  rw [← hA]
  unfold tokA
  icases HtA with ⟨Ht2, Ht3⟩
  ihave Hp' := (pos_reached c _ 2 t.val rfl (by unfold kl; exact decide_eq_true (by omega)) (by omega)) $$ Hp
  icases Hp' with ⟨#Hr2, Hp⟩
  iapply (wp_dsend X A K KS c t.val 2 3 (by unfold kl; exact decide_eq_true (by omega)) (by unfold kl; exact decide_eq_true (by omega)) hh (t.val + 3)
    (Owe c (t.val + 1) + ocr c t.val) (Owe c (t.val + 1) + ocr c t.val + oa c t.val) rfl (slotM (aM (rg c t.val)) (sl t.val)) fullShare (A (org c t.val) (t.val + 1)) (aM (rg c t.val))
    (pay2 X A c t.val) (by
      have e := pay3 X A (nx c t.val) (t.val + 1) (by omega)
      rw [rg_outN (rg c t.val) c t.val, org_outN c t.val hh] at e
      rw [← e]) _ ((d9 c _).trans (by rw [nx, hb])) _ _ (by rw [hb]; exact slotM_eq _ _ _ _ (o15 t)) (by rw [hb]; exact slotM_eq _ _ _ _ (o23 t)) _ _
      (by rw [hb]; exact semAt_eq _ _ _ _ (o22 t)) (by rw [hb]; exact semAt_eq _ _ _ _ (o22 t))) $$ [Ha HgA HO Ht2 Ht3]
  · isplitr; · iexact Hrec
    isplitl [Ha]; · iexact Ha
    isplitl [HgA]; · iexact HgA
    isplitl [HO]; · iexact HO
    isplitl [Ht2]; · iexact Ht2
    isplitr; · iexact Hr2
    isplitl [Ht3]; · iexact Ht3
    iexact Hr3
  iintro ⟨HcA, HO⟩
  rw [dite_next, wp_bind]
  iapply (wp_waitsx_if X A K KS c t.val hh (cond13 t) _ (hO1.mono (by omega)) (Function.update (Function.update (fun _ => t.val) 1 (t.val + 1)) 3 (t.val + 1)) rfl _
    (fun x => ⟨_, _, _, _, _, rfl, by rw [hb]; exact semAt_eq _ _ _ _ (o24 t)⟩)) $$ [HcX Hx HO Hp]
  · isplitr; · iexact Hrec
    isplitl [HcX]; · iexact HcX
    isplitl [Hx]; · iexact Hx
    isplitl [HO]; · iexact HO
    iexact Hp
  iintro ⟨Hx, HO, Hp⟩
  iapply (wp_dwait X A K KS c t.val 2 (by unfold kl; exact decide_eq_true (by omega)) (by omega) 0 (by omega) _ (hO1.mono (by omega)) (Function.update (Function.update (Function.update (fun _ => t.val) 1 (t.val + 1)) 3 (t.val + 1)) 0 (t.val + 1)) rfl
    _ (by rw [hb]; exact semAt_eq _ _ _ _ (o22 t))) $$ [HO HcA Hp]
  · isplitr; · iexact Hrec
    isplitl [HcA]; · iexact HcA
    isplitl [HO]; · iexact HO
    iexact Hp
  rw [pay2]
  iintro ⟨HO, Hp, -, Ha⟩
  have hpos : Function.update (Function.update (Function.update (Function.update (fun _ : Fin 4 => t.val) 1 (t.val + 1)) 3 (t.val + 1)) 0 (t.val + 1)) 2 (t.val + 1) = fun _ => t.val + 1 := by
    funext i; fin_cases i <;> rfl
  rw [hpos, wp_ret]; imodintro
  iapply Hk
  isplitl [HO]; · iexact HO
  isplitl [Hx]; · iapply (owns_anyS c _ _ _); iexact Hx
  isplitl [Ha]; · iapply (owns_anyS c _ _ _); iexact Ha
  isplitr; · iexact Hra
  iexact Hp

end Cert.KernelIdeal.Mesh
-- ==== Proof.LoopI.lean ====
/- A step of a device, on whichever ring it takes part in, and the steps in turn. -/
module

public import proofs.«01_k».proof.Proof.PartLI
public import proofs.«01_k».proof.Proof.PartRI
public import Idealize.ShloMosaic.Lib.Scf

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → Vec F S512x1024 .bf16) (A : Dev nD → ℕ → Vec F S512x1024 .bf16)
variable (K : Dev nD × CI → ℕ) (KS : Key → ℕ)

/-- What step `h` uses up. -/
def res (c : Dev nD) (h : ℕ) : sProp 𝕄 :=
  iprop(avail (F := F) c h ∗ cred (tallyAt (dcell c (rg c h) 1 (ks 1 h)) (h + 2) N) ∗ tokX (F := F) c h ∗ inA A c h ∗ tokA (F := F) c h ∗ tokCr (F := F) c h)

/-- The four blocks of weights. -/
def wts (w : Fin 4 → Vec F S1024x1024 .f32) (c : Dev nD) : sProp 𝕄 :=
  iprop(owns (c : Thread nD τ) (Memref.whole cc0_stg1_0) fullShare (w 0) ∗ owns (c : Thread nD τ) (Memref.whole cc0_stg2_0) fullShare (w 1)
    ∗ owns (c : Thread nD τ) (Memref.whole cc0_stg3_0) fullShare (w 2) ∗ owns (c : Thread nD τ) (Memref.whole cc0_stg4_0) fullShare (w 3))

/-- What a device holds before step `k`. -/
def inv (w : Fin 4 → Vec F S1024x1024 .f32) (c : Dev nD) (k : ℕ) : sProp 𝕄 :=
  iprop(wts w c ∗ owesE c (Owe c k) ∗ crPos (F := F) c true (cw true c k) ∗ crPos (F := F) c false (cw false c k)
    ∗ facts (F := F) c true (fc true c k) ∗ facts (F := F) c false (fc false c k) ∗ pos c (fun _ => k)
    ∗ bigSep (Finset.Ico k 15) (res A c) ∗ bigSep (Finset.range k) (keptAt (F := F) c))

theorem stepL (c : Dev nD) (t : Fin k0_t1_loop.trips) (hb : rg c t.val = true) (w : Fin 4 → Vec F S1024x1024 .f32)
    (hA : A (org c t.val) (t.val + 1) = stepVal w (X (org c t.val)) (A (org c t.val) t.val)) (v2 v5 v7 : BitVec 32) :
    iprop(recs X A K KS ∗ inv A w c t.val) ⊢ wp frame (wpE (defs₀ (F := F)) 𝒱₀ c none) Set.univ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v2 v5 v7 0#32 15#32 t ())
      (fun _ => iprop(recs X A K KS ∗ inv A w c (t.val + 1))) := by
  have hh : t.val < 15 := lt_of_lt_of_le t.isLt k0_t1_abs.2.1
  have hy : k0_cond3 c t = 1#1 := (cond3 c t).mpr hb
  have hn : ¬ k0_cond9 c t = 1#1 := fun h => absurd ((cond9 c t).mp h) (by rw [hb]; decide)
  have hnb : (!(rg c t.val)) = false := by rw [hb]; rfl
  have hcw : cw false c (t.val + 1) = cw false c t.val := by have := cw_other c t.val; rwa [hnb] at this
  have hfc : fc false c (t.val + 1) = fc false c t.val := by have := fc_other c t.val; rwa [hnb] at this
  unfold k0_t1_body inv wts
  simp only [dif_pos hy, dif_neg hn, semSignalWord, semWaitWord, Prog.lift, Prog.bind_op, Prog.bind_ret, Prog.pure_eq_ret, wp_bind]
  have e1 : bigSep (Finset.Ico t.val 15) (res A c) = iprop((avail (F := F) c t.val ∗ cred (tallyAt (dcell c (rg c t.val) 1 (ks 1 t.val)) (t.val + 2) N)
      ∗ tokX (F := F) c t.val ∗ inA A c t.val ∗ tokA (F := F) c t.val ∗ tokCr (F := F) c t.val) ∗ bigSep (Finset.Ico (t.val + 1) 15) (res A c)) := by
    rw [ico_succ hh]; exact bigSep_insert (by rw [Finset.mem_Ico]; omega)
  have e2 : bigSep (Finset.range (t.val + 1)) (keptAt (F := F) c) = iprop(keptAt (F := F) c t.val ∗ bigSep (Finset.range t.val) (keptAt (F := F) c)) := by
    rw [Finset.range_add_one]; exact bigSep_insert Finset.notMem_range_self
  rw [hcw, hfc, e1, e2]
  have hcp : ∀ m, crPos (F := F) c true m = crPos (F := F) c (rg c t.val) m := fun m => by rw [hb]
  have hf : ∀ m, facts (F := F) c true m = facts (F := F) c (rg c t.val) m := fun m => by rw [hb]
  have hcv : ∀ k, cw true c k = cw (rg c t.val) c k := fun k => by rw [hb]
  have hfv : ∀ k, fc true c k = fc (rg c t.val) c k := fun k => by rw [hb]
  simp only [hcp, hf, hcv, hfv]
  iintro ⟨#Hrec, ⟨Hw0, Hw1, Hw2, Hw3⟩, HO, Hcp, Hcq, #Hf, #Hfq, Hp, ⟨⟨Hav, Hc1, HtX, HiA, HtA, HtC⟩, Hres⟩, Hkept⟩
  iapply (part1_run X A K KS c t hy hb v5 v7 w) $$ [HO Hcp Hav Hc1 HtX Hp Hw0 Hw2]
  · isplitr; · iexact Hrec
    isplitl [HO]; · iexact HO
    isplitl [Hcp]; · iexact Hcp
    isplitl [Hav]; · iexact Hav
    isplitl [Hc1]; · iexact Hc1
    isplitl [HtX]; · iexact HtX
    isplitl [Hp]; · iexact Hp
    isplitl [Hw0]; · iexact Hw0
    iexact Hw2
  iintro ⟨HO, Hcp, HgA, #Hr3, #Hr1, Hx, HcX, Hp, Hw0, Hw2⟩
  dsimp only
  iapply (part2_run c _ _ _ _ (w 3)) $$ Hw3
  iintro Hw3
  dsimp only
  iapply (part3_run c _ _ _ _ _)
  dsimp only
  iapply (part4_run c _ _ _ _ _ _ _ _ _ (w 1)) $$ Hw1
  iintro Hw1
  dsimp only
  iapply (part5_run X A K KS c t hy hb v5 v7 _ _ _ hA) $$ [HO HgA Hx HcX Hp HiA HtA]
  · isplitr; · iexact Hrec
    isplitl [HO]; · iexact HO
    isplitl [HgA]; · iexact HgA
    isplitr; · iexact Hr3
    isplitl [Hx]; · iexact Hx
    isplitl [HcX]; · iexact HcX
    isplitl [Hp]; · iexact Hp
    isplitl [HiA]; · iexact HiA
    iexact HtA
  iintro %v ⟨HO, Hx, Ha, #Hra, Hp⟩
  rw [dite_next, wp_bind]
  iapply (wp_crsig X A K KS c t.val hh (cond8 t) (Owe c (t.val + 1)) _ (fun x => ⟨_, _, _, rfl, (d7 c _).trans (by rw [pv, hb]; rfl), by rw [hb]; rfl, rfl⟩)) $$ [HO HtC Hx Ha]
  · isplitr; · iexact Hrec
    isplitl [HtC]; · iexact HtC
    isplitl [Hx]; · iexact Hx
    isplitl [Ha]; · iexact Ha
    isplitr; · iexact Hf
    isplitr; · iexact Hr1
    isplitr; · iexact Hra
    iexact HO
  iintro ⟨HO, #Hf', Hk⟩
  rw [wp_ret]; imodintro
  isplitr; · iexact Hrec
  isplitl [Hw0 Hw1 Hw2 Hw3]
  · isplitl [Hw0]; · iexact Hw0
    isplitl [Hw1]; · iexact Hw1
    isplitl [Hw2]; · iexact Hw2
    iexact Hw3
  isplitl [HO]; · iexact HO
  isplitl [Hcp]; · iexact Hcp
  isplitl [Hcq]; · iexact Hcq
  isplitr; · iexact Hf'
  isplitr; · iexact Hfq
  isplitl [Hp]; · iexact Hp
  isplitl [Hres]; · iexact Hres
  isplitl [Hk]; · iexact Hk
  iexact Hkept

theorem stepR (c : Dev nD) (t : Fin k0_t1_loop.trips) (hb : rg c t.val = false) (w : Fin 4 → Vec F S1024x1024 .f32)
    (hA : A (org c t.val) (t.val + 1) = stepVal w (X (org c t.val)) (A (org c t.val) t.val)) (v2 v5 v7 : BitVec 32) :
    iprop(recs X A K KS ∗ inv A w c t.val) ⊢ wp frame (wpE (defs₀ (F := F)) 𝒱₀ c none) Set.univ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v2 v5 v7 0#32 15#32 t ())
      (fun _ => iprop(recs X A K KS ∗ inv A w c (t.val + 1))) := by
  have hh : t.val < 15 := lt_of_lt_of_le t.isLt k0_t1_abs.2.1
  have hy : k0_cond9 c t = 1#1 := (cond9 c t).mpr hb
  have hn : ¬ k0_cond3 c t = 1#1 := fun h => absurd ((cond3 c t).mp h) (by rw [hb]; decide)
  have hnb : (!(rg c t.val)) = true := by rw [hb]; rfl
  have hcw : cw true c (t.val + 1) = cw true c t.val := by have := cw_other c t.val; rwa [hnb] at this
  have hfc : fc true c (t.val + 1) = fc true c t.val := by have := fc_other c t.val; rwa [hnb] at this
  unfold k0_t1_body inv wts
  simp only [dif_pos hy, dif_neg hn, semSignalWord, semWaitWord, Prog.lift, Prog.bind_op, Prog.bind_ret, Prog.pure_eq_ret, wp_bind]
  have e1 : bigSep (Finset.Ico t.val 15) (res A c) = iprop((avail (F := F) c t.val ∗ cred (tallyAt (dcell c (rg c t.val) 1 (ks 1 t.val)) (t.val + 2) N)
      ∗ tokX (F := F) c t.val ∗ inA A c t.val ∗ tokA (F := F) c t.val ∗ tokCr (F := F) c t.val) ∗ bigSep (Finset.Ico (t.val + 1) 15) (res A c)) := by
    rw [ico_succ hh]; exact bigSep_insert (by rw [Finset.mem_Ico]; omega)
  have e2 : bigSep (Finset.range (t.val + 1)) (keptAt (F := F) c) = iprop(keptAt (F := F) c t.val ∗ bigSep (Finset.range t.val) (keptAt (F := F) c)) := by
    rw [Finset.range_add_one]; exact bigSep_insert Finset.notMem_range_self
  rw [hcw, hfc, e1, e2]
  have hcp : ∀ m, crPos (F := F) c false m = crPos (F := F) c (rg c t.val) m := fun m => by rw [hb]
  have hf : ∀ m, facts (F := F) c false m = facts (F := F) c (rg c t.val) m := fun m => by rw [hb]
  have hcv : ∀ k, cw false c k = cw (rg c t.val) c k := fun k => by rw [hb]
  have hfv : ∀ k, fc false c k = fc (rg c t.val) c k := fun k => by rw [hb]
  simp only [hcp, hf, hcv, hfv]
  iintro ⟨#Hrec, ⟨Hw0, Hw1, Hw2, Hw3⟩, HO, Hcq, Hcp, #Hfq, #Hf, Hp, ⟨⟨Hav, Hc1, HtX, HiA, HtA, HtC⟩, Hres⟩, Hkept⟩
  iapply (part6_run X A K KS c t hy hb v5 v7 w) $$ [HO Hcp Hav Hc1 HtX Hp Hw0 Hw2]
  · isplitr; · iexact Hrec
    isplitl [HO]; · iexact HO
    isplitl [Hcp]; · iexact Hcp
    isplitl [Hav]; · iexact Hav
    isplitl [Hc1]; · iexact Hc1
    isplitl [HtX]; · iexact HtX
    isplitl [Hp]; · iexact Hp
    isplitl [Hw0]; · iexact Hw0
    iexact Hw2
  iintro ⟨HO, Hcp, HgA, #Hr3, #Hr1, Hx, HcX, Hp, Hw0, Hw2⟩
  dsimp only
  iapply (part7_run c _ _ _ _ (w 3)) $$ Hw3
  iintro Hw3
  dsimp only
  iapply (part8_run c _ _ _ _ _)
  dsimp only
  iapply (part9_run c _ _ _ _ _ _ _ _ _ (w 1)) $$ Hw1
  iintro Hw1
  dsimp only
  iapply (part10_run X A K KS c t hy hb v5 v7 _ _ _ hA) $$ [HO HgA Hx HcX Hp HiA HtA]
  · isplitr; · iexact Hrec
    isplitl [HO]; · iexact HO
    isplitl [HgA]; · iexact HgA
    isplitr; · iexact Hr3
    isplitl [Hx]; · iexact Hx
    isplitl [HcX]; · iexact HcX
    isplitl [Hp]; · iexact Hp
    isplitl [HiA]; · iexact HiA
    iexact HtA
  iintro %v ⟨HO, Hx, Ha, #Hra, Hp⟩
  rw [dite_next, wp_bind]
  iapply (wp_crsig X A K KS c t.val hh (cond14 t) (Owe c (t.val + 1)) _ (fun x => ⟨_, _, _, rfl, (d10 c _).trans (by rw [pv, hb]; rfl), by rw [hb]; rfl, rfl⟩)) $$ [HO HtC Hx Ha]
  · isplitr; · iexact Hrec
    isplitl [HtC]; · iexact HtC
    isplitl [Hx]; · iexact Hx
    isplitl [Ha]; · iexact Ha
    isplitr; · iexact Hf
    isplitr; · iexact Hr1
    isplitr; · iexact Hra
    iexact HO
  iintro ⟨HO, #Hf', Hk⟩
  rw [wp_ret]; imodintro
  isplitr; · iexact Hrec
  isplitl [Hw0 Hw1 Hw2 Hw3]
  · isplitl [Hw0]; · iexact Hw0
    isplitl [Hw1]; · iexact Hw1
    isplitl [Hw2]; · iexact Hw2
    iexact Hw3
  isplitl [HO]; · iexact HO
  isplitl [Hcq]; · iexact Hcq
  isplitl [Hcp]; · iexact Hcp
  isplitr; · iexact Hfq
  isplitr; · iexact Hf'
  isplitl [Hp]; · iexact Hp
  isplitl [Hres]; · iexact Hres
  isplitl [Hk]; · iexact Hk
  iexact Hkept

/-- The steps in turn. -/
theorem steps (c : Dev nD) (w : Fin 4 → Vec F S1024x1024 .f32)
    (hA : ∀ h, h < 15 → A (org c h) (h + 1) = stepVal w (X (org c h)) (A (org c h) h)) (v2 v5 v7 : BitVec 32) {α : Type} {Q : α → sProp 𝕄}
    {kk : Unit → Prog (TpuEff nD τ sig (Elt F) Λ₀ .tc) α} :
    iprop(recs X A K KS ∗ inv A w c 0)
      ⊢ iprop(((recs X A K KS ∗ inv A w c 15) -∗ wp frame (wpE (defs₀ (F := F)) 𝒱₀ c none) Set.univ (kk ()) Q)
        -∗ wp frame (wpE (defs₀ (F := F)) 𝒱₀ c none) Set.univ (Scf.Loop.for k0_t1_loop k0_t1_ok ⟨⟩ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v2 v5 v7 0#32 15#32) >>= kk) Q) := by
  have ht : Scf.trips k0_t1_loop.lb k0_t1_loop.ub k0_t1_loop.st = 15 := by decide +kernel
  iintro H Hk
  iapply (Scf.wp_for_bind _ _ _ _ _ _ k0_t1_ok ⟨⟩ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v2 v5 v7 0#32 15#32) (fun k _ => iprop(recs X A K KS ∗ inv A w c k)) (fun t _ => by
    have hA' := hA t.val (lt_of_lt_of_le t.isLt k0_t1_abs.2.1)
    by_cases hb : rg c t.val = true
    · exact stepL X A K KS c t hb w hA' v2 v5 v7
    · exact stepR X A K KS c t (Bool.eq_false_iff.mpr hb) w hA' v2 v5 v7)) $$ H
  iintro %u H
  rw [ht]
  iapply Hk; iexact H

end Cert.KernelIdeal.Mesh
-- ==== Proof.CloseI.lean ====
/- Exit: the buffers whole again, every cell closed with its counter at zero. -/
module

public import proofs.«01_k».proof.Proof.CondI

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → Vec F S512x1024 .bf16) (A : Dev nD → ℕ → Vec F S512x1024 .bf16)
variable (K : Dev nD × CI → ℕ) (KS : Key → ℕ)

/-! ## Two slots and the buffer of them -/

theorem mem_slotR (s : Fin 2) (i : S2x512x1024.Idx) : i ∈ (slotR s).set ↔ (i (0 : Fin 3)).val = s.val := by
  rw [Rect.mem_set_unit]
  constructor
  · intro h
    have h0 := h (0 : Fin 3)
    have h1 : s.val ≤ (i (0 : Fin 3)).val := h0.1
    have h2 : (i (0 : Fin 3)).val < s.val + 1 := h0.2
    omega
  · intro h a
    have hl : (i a).val < S2x512x1024.size a := (i a).isLt
    fin_cases a
    · exact ⟨le_of_eq h.symm, lt_of_eq_of_lt h (Nat.lt_succ_self _)⟩
    · exact ⟨Nat.zero_le _, lt_of_lt_of_eq hl (Nat.zero_add _).symm⟩
    · exact ⟨Nat.zero_le _, lt_of_lt_of_eq hl (Nat.zero_add _).symm⟩

theorem slots_disj (M : Memref sig .tc .vmem S2x512x1024 .bf16) : Disjoint (slotM M 0).view.set (slotM M 1).view.set := by
  rw [slot_set, slot_set, View.set_slice, View.set_slice]
  refine (Finset.disjoint_map _).mpr (Finset.disjoint_left.mpr fun i h0 h1 => ?_)
  rw [mem_slotR] at h0 h1
  rw [h0] at h1; exact absurd h1 (by decide)

theorem slots_union (M : Memref sig .tc .vmem S2x512x1024 .bf16) : (slotM M 0).view.set ∪ (slotM M 1).view.set = M.view.set := by
  rw [slot_set, slot_set, View.set_slice, View.set_slice, ← Finset.map_union]
  have : (slotR 0).set ∪ (slotR 1).set = (Finset.univ : Finset S2x512x1024.Idx) := by
    ext i
    rw [Finset.mem_union, mem_slotR, mem_slotR]
    have h : (i (0 : Fin 3)).val < 2 := (i (0 : Fin 3)).isLt
    exact ⟨fun _ => Finset.mem_univ i, fun _ => by
      rcases Nat.lt_or_ge (i (0 : Fin 3)).val 1 with h1 | h1
      · left; show (i (0 : Fin 3)).val = 0; omega
      · right; show (i (0 : Fin 3)).val = 1; omega⟩
  rw [this]; rfl

/-- All of a buffer, at some contents. -/
def allS (c : Dev nD) {sh : Shape} {e : EltTy} (M : Memref sig .tc .vmem sh e) : sProp 𝕄 := Release.slot (M.view.loc (c : Thread nD τ)) M.view.set

theorem allS_split (c : Dev nD) (M : Memref sig .tc .vmem S2x512x1024 .bf16) : allS (F := F) c M ⊢ iprop(anyS c M 0 ∗ anyS c M 1) := by
  unfold allS anyS Release.slot
  iintro ⟨%f, H⟩
  rw [← slots_union M]
  ihave H' := (pointsTo_union (slots_disj M)).1 $$ H
  icases H' with ⟨H0, H1⟩
  isplitl [H0]; · iexists f; iexact H0
  iexists f; iexact H1

theorem allS_join (c : Dev nD) (M : Memref sig .tc .vmem S2x512x1024 .bf16) : iprop(anyS c M 0 ∗ anyS c M 1) ⊢ allS (F := F) c M := by
  unfold allS anyS Release.slot
  iintro ⟨⟨%f, H0⟩, ⟨%g, H1⟩⟩
  rw [← slots_union M]
  ihave H := (pointsTo_join (ℓ := M.view.loc (c : Thread nD τ)) (q := fullShare) (f := f) (g := g) (slots_disj M)) $$ [H0 H1]
  · isplitl [H0]; · iexact H0
    iexact H1
  iexists _; iexact H

/-! ## What is kept of the slots -/

/-- The slots as the last steps leave them, and the last one received. -/
theorem kept_all (c : Dev nD) :
    iprop(bigSep (Finset.range 15) (keptAt (F := F) c) ∗ anyS c (aM (rg c 15)) (sl 15))
      ⊢ iprop(allS c (xM true) ∗ allS c (aM true) ∗ allS c (xM false) ∗ allS c (aM false)) := by
  have e (n : ℕ) : bigSep (Finset.range (n + 1)) (keptAt (F := F) c) = iprop(keptAt (F := F) c n ∗ bigSep (Finset.range n) (keptAt (F := F) c)) := by
    rw [Finset.range_add_one]; exact bigSep_insert Finset.notMem_range_self
  have h13 : rg c 13 = rg c 15 := by unfold rg; rw [show (c.val + 13) % 2 = (c.val + 15) % 2 by omega]
  have h11 : rg c 11 = rg c 15 := by unfold rg; rw [show (c.val + 11) % 2 = (c.val + 15) % 2 by omega]
  have h12 : rg c 12 = rg c 14 := by unfold rg; rw [show (c.val + 12) % 2 = (c.val + 14) % 2 by omega]
  rw [e 14, e 13, e 12, e 11]
  unfold keptAt
  rw [if_neg (show ¬ 14 ≤ 10 by decide), if_neg (show ¬ 14 ≤ 11 by decide), if_neg (show ¬ 13 ≤ 10 by decide), if_neg (show ¬ 13 ≤ 11 by decide),
    if_neg (show ¬ 12 ≤ 10 by decide), if_neg (show ¬ 12 ≤ 11 by decide), if_neg (show ¬ 11 ≤ 10 by decide), h11, h12, h13]
  have j1 : iprop(anyS (F := F) c (xM (rg c 14)) (sl 12) ∗ anyS c (xM (rg c 14)) (sl 14)) ⊢ allS c (xM (rg c 14)) := allS_join c _
  have j2 : iprop(anyS (F := F) c (aM (rg c 14)) (sl 12) ∗ anyS c (aM (rg c 14)) (sl 14)) ⊢ allS c (aM (rg c 14)) := allS_join c _
  have j3 : iprop(anyS (F := F) c (xM (rg c 15)) (sl 13) ∗ anyS c (xM (rg c 15)) (sl 11)) ⊢ allS c (xM (rg c 15)) := allS_join c _
  have j4 : iprop(anyS (F := F) c (aM (rg c 15)) (sl 13) ∗ anyS c (aM (rg c 15)) (sl 15)) ⊢ allS c (aM (rg c 15)) := allS_join c _
  have hr : rg c 15 = !(rg c 14) := by
    unfold rg
    rcases Nat.mod_two_eq_zero_or_one (c.val + 14) with h | h
    · rw [h, show (c.val + 15) % 2 = 1 by omega]; rfl
    · rw [h, show (c.val + 15) % 2 = 0 by omega]; rfl
  iintro ⟨⟨⟨X14, A14⟩, ⟨X13, A13⟩, ⟨X12, A12⟩, ⟨X11, -⟩, -⟩, A15⟩
  ihave J1 := j1 $$ [X12 X14]
  · isplitl [X12]; · iexact X12
    iexact X14
  ihave J2 := j2 $$ [A12 A14]
  · isplitl [A12]; · iexact A12
    iexact A14
  ihave J3 := j3 $$ [X13 X11]
  · isplitl [X13]; · iexact X13
    iexact X11
  ihave J4 := j4 $$ [A13 A15]
  · isplitl [A13]; · iexact A13
    iexact A15
  rw [hr]
  cases hb : rg c 14
  · isplitl [J3]; · iexact J3
    isplitl [J4]; · iexact J4
    isplitl [J1]; · iexact J1
    iexact J2
  · isplitl [J1]; · iexact J1
    isplitl [J2]; · iexact J2
    isplitl [J3]; · iexact J3
    iexact J4

/-! ## The cells -/

theorem with_recs {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The step each use of a receive or send cell is before, at the end. -/
abbrev hsN : Fin 4 → ℕ := Function.update (fun _ => 15) 3 16

theorem live_mono (p : ℕ) (k : Fin 4) (s : ℕ) {r r' : ℕ} (hr : r ≤ r') (h : live p k s r') : live p k s r := by
  unfold live gsx hx hsa ha at *
  fin_cases k
  · exact le_trans (by omega) h
  · exact le_trans (by omega) h
  · refine le_trans ?_ h
    split
    · omega
    · split <;> omega
  · refine le_trans ?_ h
    split
    · omega
    · split <;> omega

theorem not_live_end (p : ℕ) (hp : p < 2) (k : Fin 4) (s : Fin 2) (r : ℕ) (hr : P p k s (hsN k) ≤ r) : ¬ live p k s.val r := by
  have hP : ∀ p : Fin 2, ∀ k : Fin 4, ∀ s : Fin 2, ¬ live p.val k s.val (P p.val k s (hsN k)) := by decide
  exact fun h => hP ⟨p, hp⟩ k s (live_mono p k s.val hr h)

theorem close_d (c : Dev nD) : iprop(recs X A K KS ∗ pos (F := F) c hsN)
    ⊢ |={Set.univ}=> bigSep Finset.univ fun x : CX => (semVal (dcell c x.1 x.2.1 x.2.2) 0 : sProp 𝕄) := by
  unfold pos
  refine (with_recs (Ψ := fun x : CX => iprop(|={Set.univ}=> semVal (dcell c x.1 x.2.1 x.2.2) 0)) fun x _ => ?_).trans (bigSep_fupd _ _)
  unfold at'
  iintro ⟨#Hrec, Hat, -⟩
  ihave #Hinv := (recs_inv X A K KS (c, some (.inr x))) $$ Hrec
  iapply (Rounds.cell_close ER (meshRd (F := F) X A) (Set.mem_univ (K (c, some (.inr x)))) (fun h => h) (R := P (par x.1 c) x.2.1 x.2.2 (hsN x.2.1))
    (fun r hr => duties_d_none X A c x.1 x.2.1 x.2.2 r (not_live_end _ (par_lt x.1 c) _ _ r hr)))
  isplitr; · iexact Hinv
  iexact Hat

theorem close_bar (c : Dev nD) : iprop(recs X A K KS ∗ atPos (ER (F := F)) (barCell c) 1 ∅ 0) ⊢ |={Set.univ}=> (semVal (barCell c) 0 : sProp 𝕄) := by
  iintro ⟨#Hrec, Hat⟩
  ihave #Hinv := (recs_inv X A K KS (c, none)) $$ Hrec
  iapply (Rounds.cell_close ER (meshRd (F := F) X A) (Set.mem_univ (K (c, none))) (fun h => h) (R := 1)
    (fun r hr => duties_reg_later X A c r barS (by omega)))
  isplitr; · iexact Hinv
  iexact Hat

theorem close_cr (c : Dev nD) (b : Bool) : iprop(recs X A K KS ∗ crPos (F := F) c b 6) ⊢ |={Set.univ}=> (semVal (crCell c b) 0 : sProp 𝕄) := by
  unfold crPos
  iintro ⟨#Hrec, ⟨%T, %hT, Hat, -⟩⟩
  ihave #Hinv := (recs_inv X A K KS (c, some (.inl b))) $$ Hrec
  have hT' : T = Finset.range 6 := Finset.eq_of_subset_of_card_le hT.1 (by rw [Finset.card_range]; exact hT.2)
  subst hT'
  imod (Rounds.fupd_skip ER (meshRd (F := F) X A) (g := crCell c b) (κ := K (c, some (.inl b))) (R := 0) (T := Finset.range 6) (m := 6) (by rw [duties_cr]) (by rw [expect_cr]) (Set.mem_univ _)) $$ [Hat] with ⟨Hat, -⟩
  · isplitr; · iexact Hinv
    iexact Hat
  iapply (Rounds.cell_close ER (meshRd (F := F) X A) (Set.mem_univ (K (c, some (.inl b)))) (fun h => h) (R := 0 + 1)
    (fun r hr => duties_reg_later X A c r (crS b).sem (by omega)))
  isplitr; · iexact Hinv
  iexact Hat

end Cert.KernelIdeal.Mesh
-- ==== Proof.BodyI.lean ====
/- The body of a device, from its rights at entry to the result and every cell closed. -/
module

public import proofs.«01_k».proof.Proof.EnterI
public import proofs.«01_k».proof.Proof.LoopI
public import proofs.«01_k».proof.Proof.CloseI

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → Vec F S512x1024 .bf16) (A : Dev nD → ℕ → Vec F S512x1024 .bf16)
variable (K : Dev nD × CI → ℕ) (KS : Key → ℕ)

theorem c15 : ∀ c : Dev nD, Scalar.cmpi .ne (Scalar.extui (v9 c) : BitVec 32) 0#32 = 1#1 ↔ par true c = 1 := by decide +kernel
theorem c16 : ∀ c : Dev nD, Scalar.cmpi .ne (Scalar.extui (Scalar.xori (v9 c) 1#1) : BitVec 32) 0#32 = 1#1 ↔ par false c = 1 := by decide +kernel

/-- The result of a device: its own share added to the partial sum that came back to it. -/
def outV (w : Fin 4 → Vec F S1024x1024 .f32) (xs : Vec F S1x512x1024 .f32) (a : Vec F S512x1024 .bf16) : Vec F S1x512x1024 .f32 :=
  let v31 := k0_pay40 xs (w 0)
  let v34 := k0_pay41 xs (w 2)
  let v37 := k0_pay42 xs (w 3)
  let v106 := k0_pay48 v31 v34
  k0_pay2 v37 (k0_pay43 xs (w 0) (w 2) (w 3)) (k0_pay45 v37 (k0_pay44 xs (w 0) (w 2))) (k0_pay46 v31 v34 v37) (k0_pay47 v31 v34 v37)
    (k0_pay50 v37 v106 (k0_pay49 v31 v34)) (k0_pay51 v31 v34 v37) (k0_pay52 v31 v34 v37) (k0_pay53 v31 v34) (k0_pay54 (F := F)) (w 1) (up a)

/-- What a device owes at entry. -/
def OweAll (c : Dev nD) (b : Bool) : CellTallies nD τ sig ℕ :=
  Owe c 0 + tallyAt (dcell (outN b c) b 1 0) 2 N + tallyAt (barCell (outN false c)) 1 1 + tallyAt (barCell (outN true c)) 1 1

/-- What step `h` uses up, of what a device enters with. -/
def lau (c : Dev nD) (h : ℕ) : sProp 𝕄 :=
  iprop((if h < 3 then iprop(emp) else iprop(Release.writeTok (ES (F := F)) (nx c h, rg c h, (h - 3) / 2) 1 ∗ cred (tallyAt (crCell c (rg c h)) (h + 2) 1)))
    ∗ cred (tallyAt (dcell c (rg c h) 1 (ks 1 h)) (h + 2) N) ∗ tokX (F := F) c h
    ∗ (if h = 0 then iprop(emp) else cred (tallyAt (dcell c (rg c h) 3 (ks 3 h)) (h + 2) N)) ∗ tokA (F := F) c h ∗ tokCr (F := F) c h)

def bodyIn (w : Fin 4 → Vec F S1024x1024 .f32) (xs : Vec F S1x512x1024 .f32) (c : Dev nD) (b : Bool) : sProp 𝕄 :=
  iprop(owesE c (OweAll c b) ∗ entry (F := F) c b ∗ pos0 (F := F) c
    ∗ (allS (F := F) c (xM true) ∗ allS (F := F) c (aM true) ∗ allS (F := F) c (xM false) ∗ allS (F := F) c (aM false))
    ∗ (∃ f, owns (c : Thread nD τ) xoM fullShare f) ∗ owns (c : Thread nD τ) (Memref.whole cc0_stg0_0) fullShare xs ∗ wts w c
    ∗ (∃ f, owns (c : Thread nD τ) (Memref.whole cc0_stg5_0) fullShare f) ∗ crPos (F := F) c true 0 ∗ crPos (F := F) c false 0
    ∗ bigSep (Finset.Ico 0 15) (lau (F := F) c) ∗ cred (tallyAt (dcell c (rg c 15) 3 (ks 3 15)) 17 N))

def bodyOut (w : Fin 4 → Vec F S1024x1024 .f32) (xs : Vec F S1x512x1024 .f32) (a : Vec F S512x1024 .bf16) (c : Dev nD) : sProp 𝕄 :=
  iprop(owesE (F := F) c 0
    ∗ (allS (F := F) c (xM true) ∗ allS (F := F) c (aM true) ∗ allS (F := F) c (xM false) ∗ allS (F := F) c (aM false))
    ∗ (∃ f, owns (c : Thread nD τ) xoM fullShare f) ∗ owns (c : Thread nD τ) (Memref.whole cc0_stg0_0) fullShare xs ∗ wts w c
    ∗ owns (c : Thread nD τ) (Memref.whole cc0_stg5_0) fullShare (outV w xs a)
    ∗ semVal (barCell c) 0 ∗ (semVal (crCell c true) 0 ∗ semVal (crCell c false) 0)
    ∗ bigSep Finset.univ fun x : CX => semVal (dcell c x.1 x.2.1 x.2.2) 0)

theorem slots_of (c : Dev nD) (b : Bool) : iprop(allS (F := F) c (xM b) ∗ allS c (aM b)) ⊢ slotsR c b := by
  unfold slotsR
  iintro ⟨H1, H2⟩
  ihave H1' := (allS_split c (xM b)) $$ H1
  ihave H2' := (allS_split c (aM b)) $$ H2
  icases H1' with ⟨X0, X1⟩
  isplitl [X0]; · iexact X0
  isplitl [X1]; · iexact X1
  iexact H2'

/-- What the first step starts from. -/
theorem inv_start (w : Fin 4 → Vec F S1024x1024 .f32) (c : Dev nD) :
    iprop(wts w c ∗ owesE c (Owe c 0) ∗ crPos (F := F) c true 0 ∗ crPos (F := F) c false 0 ∗ pos c (fun _ => 0)
        ∗ (avail (F := F) c 0 ∗ avail (F := F) c 1 ∗ avail (F := F) c 2)
        ∗ owns (c : Thread nD τ) (slotM (aM (rg c 0)) 0) fullShare (A (org c 0) 0) ∗ bigSep (Finset.Ico 0 15) (lau (F := F) c))
      ⊢ inv A w c 0 := by
  have hcw : ∀ b, cw b c 0 = 0 := fun b => by have := par_lt b c; unfold cw; omega
  have hfc : ∀ b, fc b c 0 = 0 := fun b => by have := par_lt b c; unfold fc; omega
  have sp (Φ : ℕ → sProp 𝕄) : bigSep (Finset.Ico 0 15) Φ = iprop(Φ 0 ∗ Φ 1 ∗ Φ 2 ∗ bigSep (Finset.Ico 3 15) Φ) := by
    rw [ico_succ (show 0 < 15 by decide), bigSep_insert (by decide), ico_succ (show 1 < 15 by decide), bigSep_insert (by decide),
      ico_succ (show 2 < 15 by decide), bigSep_insert (by decide)]; rfl
  have hrest : bigSep (Finset.Ico 3 15) (lau (F := F) c) ⊢ bigSep (Finset.Ico 3 15) (res A c) := bigSep_mono fun h hh => by
    have h3 : 3 ≤ h := (Finset.mem_Ico.mp hh).1
    unfold lau res avail inA
    rw [if_neg (show ¬ h < 3 by omega), if_neg (show ¬ h < 3 by omega), if_neg (show ¬ h = 0 by omega), if_neg (show ¬ h = 0 by omega)]
    exact BI.Entails.refl _
  have s0 : iprop(avail (F := F) c 0 ∗ owns (c : Thread nD τ) (slotM (aM (rg c 0)) 0) fullShare (A (org c 0) 0) ∗ lau c 0) ⊢ res A c 0 := by
    unfold lau res inA
    rw [if_pos (show 0 < 3 by decide), if_pos rfl, if_pos rfl]
    iintro ⟨Ha, H0, -, H1, H2, -, H3, H4⟩
    isplitl [Ha]; · iexact Ha
    isplitl [H1]; · iexact H1
    isplitl [H2]; · iexact H2
    isplitl [H0]; · iexact H0
    isplitl [H3]; · iexact H3
    iexact H4
  have s1 (h : ℕ) (h3 : h < 3) (h0 : h ≠ 0) : iprop(avail (F := F) c h ∗ lau c h) ⊢ res A c h := by
    unfold lau res inA
    rw [if_pos h3, if_neg h0, if_neg h0]
    iintro ⟨Ha, -, H1, H2, H0, H3, H4⟩
    isplitl [Ha]; · iexact Ha
    isplitl [H1]; · iexact H1
    isplitl [H2]; · iexact H2
    isplitl [H0]; · iexact H0
    isplitl [H3]; · iexact H3
    iexact H4
  have f0 : ∀ b, (emp : sProp 𝕄) ⊢ facts (F := F) c b 0 := fun b => by
    unfold facts; rw [Finset.range_zero, bigSep_empty]; exact BI.Entails.refl _
  unfold inv
  rw [hcw, hcw, hfc true, hfc false, Finset.range_zero, bigSep_empty, sp (lau c), sp (res A c)]
  iintro ⟨Hw, HO, HcT, HcF, Hp, ⟨Hv0, Hv1, Hv2⟩, Ha0, H0, H1, H2, Hr⟩
  isplitl [Hw]; · iexact Hw
  isplitl [HO]; · iexact HO
  isplitl [HcT]; · iexact HcT
  isplitl [HcF]; · iexact HcF
  isplitr; · iapply (f0 true); iempintro
  isplitr; · iapply (f0 false); iempintro
  isplitl [Hp]; · iexact Hp
  isplitl
  · isplitl [Hv0 Ha0 H0]
    · iapply s0
      isplitl [Hv0]; · iexact Hv0
      isplitl [Ha0]; · iexact Ha0
      iexact H0
    isplitl [Hv1 H1]
    · iapply (s1 1 (by decide) (by decide))
      isplitl [Hv1]; · iexact Hv1
      iexact H1
    isplitl [Hv2 H2]
    · iapply (s1 2 (by decide) (by decide))
      isplitl [Hv2]; · iexact Hv2
      iexact H2
    iapply hrest; iexact Hr
  iempintro

theorem pay_last (c : Dev nD) : payD X A c (rg c 15) 3 (ks 3 15) (kr 3 15)
    = (owns (c : Thread nD τ) (slotM (aM (rg c 15)) (sl 15)) fullShare (A c 15) : sProp 𝕄) := by
  unfold payD
  dsimp only
  rw [par_rg, show ha (15 % 2) (ks 3 15).val (kr 3 15) = 15 from by decide, org_last]
  rfl

theorem part12_run (c : Dev nD) (w : Fin 4 → Vec F S1024x1024 .f32) (xs : Vec F S1x512x1024 .f32)
    (hA : ∀ h, h < 15 → A (org c h) (h + 1) = stepVal w (X (org c h)) (A (org c h) h)) (v2 v5 v7 : BitVec 32)
    {Q : (Σ' (v31 : FVec F S512x1024 .f32) (v34 : FVec F S512x1024 .f32) (v37 : FVec F S512x1024 .f32) (v53 : FVec F S512x128 .f32), FVec F S512x512 .f32) → sProp 𝕄} :
    iprop(recs X A K KS ∗ inv A w c 0 ∗ owns (c : Thread nD τ) (Memref.whole cc0_stg0_0) fullShare xs)
      ⊢ iprop(((inv A w c 15 ∗ owns (c : Thread nD τ) (Memref.whole cc0_stg0_0) fullShare xs)
          -∗ Q ⟨k0_pay40 xs (w 0), k0_pay41 xs (w 2), k0_pay42 xs (w 3), k0_pay43 xs (w 0) (w 2) (w 3), k0_pay44 xs (w 0) (w 2)⟩)
        -∗ wp frame (wpE (defs₀ (F := F)) 𝒱₀ c none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v2 v5 v7 0#32 15#32) Q) := by
  rw [k0_part12_eq_skeleton]; unfold k0_part12_skel
  simp only [Prog.lift, Prog.bind_op, Prog.bind_ret, Prog.pure_eq_ret]
  iintro ⟨#Hrec, Hinv, Hx⟩ Hk
  iapply (steps X A K KS c w hA v2 v5 v7) $$ [Hinv]
  · isplitr; · iexact Hrec
    iexact Hinv
  iintro ⟨-, Hinv⟩
  unfold inv wts
  icases Hinv with ⟨⟨Hw0, Hw1, Hw2, Hw3⟩, Hrest⟩
  iapply (wp_load_all c (Memref.whole cc0_stg0_0) _ _ xs (rd_whole cc0_stg0_0 _ (by funext a; fin_cases a <;> rfl) _) (View.set_whole _)) $$ Hx
  iintro Hx
  iapply (wp_load_all c (Memref.whole cc0_stg1_0) _ _ (w 0) (rd_whole cc0_stg1_0 _ (by funext a; fin_cases a <;> rfl) _) (View.set_whole _)) $$ Hw0
  iintro Hw0
  iapply (wp_load_all c (Memref.whole cc0_stg3_0) _ _ (w 2) (rd_whole cc0_stg3_0 _ (by funext a; fin_cases a <;> rfl) _) (View.set_whole _)) $$ Hw2
  iintro Hw2
  iapply (wp_load_all c (Memref.whole cc0_stg4_0) _ _ (w 3) (rd_whole cc0_stg4_0 _ (by funext a; fin_cases a <;> rfl) _) (View.set_whole _)) $$ Hw3
  iintro Hw3
  rw [wp_ret]; imodintro
  iapply Hk
  isplitr [Hx]
  · isplitl [Hw0 Hw1 Hw2 Hw3]
    · isplitl [Hw0]; · iexact Hw0
      isplitl [Hw1]; · iexact Hw1
      isplitl [Hw2]; · iexact Hw2
      iexact Hw3
    iexact Hrest
  iexact Hx

theorem body_true (c : Dev nD) (hp : par true c = 1) (w : Fin 4 → Vec F S1024x1024 .f32) (xs : Vec F S1x512x1024 .f32) (hX : X c = k0_pay36 xs)
    (hA0 : ∀ o, A o 0 = down (k0_pay37 (F := F)))
    (hA : ∀ h, h < 15 → A (org c h) (h + 1) = stepVal w (X (org c h)) (A (org c h) h)) {Q : PUnit.{1} → sProp 𝕄} :
    iprop(recs X A K KS ∗ bodyIn w xs c true)
      ⊢ iprop((bodyOut w xs (A c 15) c -∗ Q ⟨⟩) -∗ wp frame (wpE (defs₀ (F := F)) 𝒱₀ c none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14) Q) := by
  have hy : Scalar.cmpi .ne (Scalar.extui (v9 c) : BitVec 32) 0#32 = 1#1 ↔ par true c = 1 := c15 c
  have hn : Scalar.cmpi .ne (Scalar.extui (Scalar.xori (v9 c) 1#1) : BitVec 32) 0#32 = 1#1 ↔ par false c = 1 := c16 c
  have hpb : par false c = 0 := by have := par_not true c; rw [hp] at this; exact this
  have hr15 : rg c 15 = true := (rg_eq_iff true c 15).mpr (by rw [hp])
  rw [cc0_body_eq_skeleton]; unfold cc0_body_skel
  simp only [Prog.lift, Prog.bind_op, Prog.bind_ret, Prog.pure_eq_ret]
  rw [wp_bind]
  unfold bodyIn OweAll
  iintro ⟨#Hrec, HO, Hent, Hp, ⟨HxT, HaT, HxF, HaF⟩, Hxo, Hx, Hw, ⟨%o0, Hout⟩, HcT, HcF, Hlau, HcE⟩ Hk
  iapply (part11_true X A K KS c hp xs hX (hA0 _)) $$ [HO Hent Hp HxT HaT HxF HaF Hxo Hx]
  · isplitr; · iexact Hrec
    isplitl [HO]; · iexact HO
    isplitl [Hent]; · iexact Hent
    isplitl [Hp]; · iexact Hp
    isplitl [HxT HaT]; · iapply (slots_of c true); isplitl [HxT]; · iexact HxT
                         iexact HaT
    isplitl [HxF HaF]; · iapply (slots_of c false); isplitl [HxF]; · iexact HxF
                         iexact HaF
    isplitl [Hxo]; · iexact Hxo
    iexact Hx
  iintro %v2 %v5 %v7 He
  dsimp only
  rw [wp_bind]
  unfold entered
  icases He with ⟨HO, Hxo, Hp, Hav, Ha0, HatB, Hx⟩
  iapply (part12_run X A K KS c w xs hA v2 v5 v7) $$ [HO Hp Hav Ha0 Hx Hw HcT HcF Hlau]
  · isplitr; · iexact Hrec
    isplitr [Hx]
    · iapply (inv_start A w c)
      isplitl [Hw]; · iexact Hw
      isplitl [HO]; · iexact HO
      isplitl [HcT]; · iexact HcT
      isplitl [HcF]; · iexact HcF
      isplitl [Hp]; · iexact Hp
      isplitl [Hav]; · iexact Hav
      isplitl [Ha0]; · iexact Ha0
      iexact Hlau
    iexact Hx
  iintro ⟨Hinv, Hx⟩
  unfold inv wts
  icases Hinv with ⟨⟨Hw0, Hw1, Hw2, Hw3⟩, HO, HcT, HcF, #HfT, #HfF, Hp, -, Hkept⟩
  dsimp only
  rw [wp_bind, k0_part13_eq_skeleton]; unfold k0_part13_skel
  simp only [Prog.pure_eq_ret]
  rw [wp_ret]; imodintro
  dsimp only
  rw [wp_bind, k0_part14_eq_skeleton]; unfold k0_part14_skel
  simp only [Prog.pure_eq_ret]
  rw [wp_ret]; imodintro
  dsimp only
  simp only [dif_pos (hy.mpr hp), dif_neg (fun h => absurd (hn.mp h) (by rw [hpb]; decide))]
  iapply (wp_load_all c (Memref.whole cc0_stg2_0) _ _ (w 1) (rd_whole cc0_stg2_0 _ (by funext a; fin_cases a <;> rfl) _) (View.set_whole _)) $$ Hw1
  iintro Hw1
  ihave Hp' := (pos_take c (fun _ => 15) 3 15 rfl (by decide) (by decide)) $$ Hp
  icases Hp' with ⟨Hat, Hpb⟩
  unfold at'
  icases Hat with ⟨Hat, -⟩
  iapply (wp_dwait0 X A K KS c (rg c 15) 3 (ks 3 15) (kr 3 15) (by rw [par_rg]; decide) 17 (by decide) (Owe c 15) (by rw [show Owe c 15 = 0 from rfl]; exact Above.zero _) _ (by rw [hr15]; exact semAt_eq _ _ _ 1 rfl) _ _) $$ [HcE HO Hat]
  · isplitr; · iexact Hrec
    isplitl [HcE]; · iexact HcE
    isplitl [HO]; · iexact HO
    iexact Hat
  iintro ⟨HO, Hat, #Hr, Ha⟩
  ihave Hp := Hpb $$ [Hat]
  · isplitl [Hat]; · iexact Hat
    iexact Hr
  ihave Ha := (Entails.of_eq (pay_last X A c)) $$ Ha
  iapply (wp_load_own c _ (aM (rg c 15)) (by rw [hr15]) _ _ (sl 15) rfl) $$ Ha
  iintro Ha
  iapply (wp_load_all c (Memref.whole cc0_stg5_0) _ _ o0 (rd_whole cc0_stg5_0 _ (by funext a; fin_cases a <;> rfl) _) (View.set_whole _)) $$ Hout
  iintro Hout
  iapply (wp_store_all c (Memref.whole cc0_stg5_0) _ _ o0 (outV w xs (A c 15)) (wr_whole cc0_stg5_0 _ (by funext a; fin_cases a <;> rfl) _ _) (View.set_whole _)) $$ Hout
  iintro Hout
  ihave Hall := (kept_all c) $$ [Hkept Ha]
  · isplitl [Hkept]; · iexact Hkept
    iapply (owns_anyS c _ _ _); iexact Ha
  have ecw : ∀ b, cw b c 15 = 6 := fun b => by have := par_lt b c; unfold cw; omega
  rw [ecw, ecw]
  imod (close_d X A K KS c) $$ [Hp] with HzD
  · isplitr; · iexact Hrec
    iexact Hp
  imod (close_bar X A K KS c) $$ [HatB] with HzB
  · isplitr; · iexact Hrec
    iexact HatB
  imod (close_cr X A K KS c true) $$ [HcT] with HzT
  · isplitr; · iexact Hrec
    iexact HcT
  imod (close_cr X A K KS c false) $$ [HcF] with HzF
  · isplitr; · iexact Hrec
    iexact HcF
  rw [wp_ret]; imodintro
  iapply Hk
  unfold bodyOut wts
  isplitl [HO]; · iexact HO
  isplitl [Hall]; · iexact Hall
  isplitl [Hxo]; · iexists _; iexact Hxo
  isplitl [Hx]; · iexact Hx
  isplitl [Hw0 Hw1 Hw2 Hw3]
  · isplitl [Hw0]; · iexact Hw0
    isplitl [Hw1]; · iexact Hw1
    isplitl [Hw2]; · iexact Hw2
    iexact Hw3
  isplitl [Hout]; · iexact Hout
  isplitl [HzB]; · iexact HzB
  isplitl [HzT HzF]
  · isplitl [HzT]; · iexact HzT
    iexact HzF
  iexact HzD

theorem body_false (c : Dev nD) (hp : par false c = 1) (w : Fin 4 → Vec F S1024x1024 .f32) (xs : Vec F S1x512x1024 .f32) (hX : X c = k0_pay36 xs)
    (hA0 : ∀ o, A o 0 = down (k0_pay37 (F := F)))
    (hA : ∀ h, h < 15 → A (org c h) (h + 1) = stepVal w (X (org c h)) (A (org c h) h)) {Q : PUnit.{1} → sProp 𝕄} :
    iprop(recs X A K KS ∗ bodyIn w xs c false)
      ⊢ iprop((bodyOut w xs (A c 15) c -∗ Q ⟨⟩) -∗ wp frame (wpE (defs₀ (F := F)) 𝒱₀ c none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14) Q) := by
  have hy : Scalar.cmpi .ne (Scalar.extui (v9 c) : BitVec 32) 0#32 = 1#1 ↔ par true c = 1 := c15 c
  have hn : Scalar.cmpi .ne (Scalar.extui (Scalar.xori (v9 c) 1#1) : BitVec 32) 0#32 = 1#1 ↔ par false c = 1 := c16 c
  have hpb : par true c = 0 := by have := par_not false c; rw [hp] at this; exact this
  have hr15 : rg c 15 = false := (rg_eq_iff false c 15).mpr (by rw [hp])
  rw [cc0_body_eq_skeleton]; unfold cc0_body_skel
  simp only [Prog.lift, Prog.bind_op, Prog.bind_ret, Prog.pure_eq_ret]
  rw [wp_bind]
  unfold bodyIn OweAll
  iintro ⟨#Hrec, HO, Hent, Hp, ⟨HxT, HaT, HxF, HaF⟩, Hxo, Hx, Hw, ⟨%o0, Hout⟩, HcT, HcF, Hlau, HcE⟩ Hk
  iapply (part11_false X A K KS c hp xs hX ((hA0 _).trans rfl)) $$ [HO Hent Hp HxT HaT HxF HaF Hxo Hx]
  · isplitr; · iexact Hrec
    isplitl [HO]; · iexact HO
    isplitl [Hent]; · iexact Hent
    isplitl [Hp]; · iexact Hp
    isplitl [HxT HaT]; · iapply (slots_of c true); isplitl [HxT]; · iexact HxT
                         iexact HaT
    isplitl [HxF HaF]; · iapply (slots_of c false); isplitl [HxF]; · iexact HxF
                         iexact HaF
    isplitl [Hxo]; · iexact Hxo
    iexact Hx
  iintro %v2 %v5 %v7 He
  dsimp only
  rw [wp_bind]
  unfold entered
  icases He with ⟨HO, Hxo, Hp, Hav, Ha0, HatB, Hx⟩
  iapply (part12_run X A K KS c w xs hA v2 v5 v7) $$ [HO Hp Hav Ha0 Hx Hw HcT HcF Hlau]
  · isplitr; · iexact Hrec
    isplitr [Hx]
    · iapply (inv_start A w c)
      isplitl [Hw]; · iexact Hw
      isplitl [HO]; · iexact HO
      isplitl [HcT]; · iexact HcT
      isplitl [HcF]; · iexact HcF
      isplitl [Hp]; · iexact Hp
      isplitl [Hav]; · iexact Hav
      isplitl [Ha0]; · iexact Ha0
      iexact Hlau
    iexact Hx
  iintro ⟨Hinv, Hx⟩
  unfold inv wts
  icases Hinv with ⟨⟨Hw0, Hw1, Hw2, Hw3⟩, HO, HcT, HcF, #HfT, #HfF, Hp, -, Hkept⟩
  dsimp only
  rw [wp_bind, k0_part13_eq_skeleton]; unfold k0_part13_skel
  simp only [Prog.pure_eq_ret]
  rw [wp_ret]; imodintro
  dsimp only
  rw [wp_bind, k0_part14_eq_skeleton]; unfold k0_part14_skel
  simp only [Prog.pure_eq_ret]
  rw [wp_ret]; imodintro
  dsimp only
  simp only [dif_neg (fun h => absurd (hy.mp h) (by rw [hpb]; decide)), dif_pos (hn.mpr hp)]
  iapply (wp_load_all c (Memref.whole cc0_stg2_0) _ _ (w 1) (rd_whole cc0_stg2_0 _ (by funext a; fin_cases a <;> rfl) _) (View.set_whole _)) $$ Hw1
  iintro Hw1
  ihave Hp' := (pos_take c (fun _ => 15) 3 15 rfl (by decide) (by decide)) $$ Hp
  icases Hp' with ⟨Hat, Hpb⟩
  unfold at'
  icases Hat with ⟨Hat, -⟩
  iapply (wp_dwait0 X A K KS c (rg c 15) 3 (ks 3 15) (kr 3 15) (by rw [par_rg]; decide) 17 (by decide) (Owe c 15) (by rw [show Owe c 15 = 0 from rfl]; exact Above.zero _) _ (by rw [hr15]; exact semAt_eq _ _ _ 1 rfl) _ _) $$ [HcE HO Hat]
  · isplitr; · iexact Hrec
    isplitl [HcE]; · iexact HcE
    isplitl [HO]; · iexact HO
    iexact Hat
  iintro ⟨HO, Hat, #Hr, Ha⟩
  ihave Hp := Hpb $$ [Hat]
  · isplitl [Hat]; · iexact Hat
    iexact Hr
  ihave Ha := (Entails.of_eq (pay_last X A c)) $$ Ha
  iapply (wp_load_own c _ (aM (rg c 15)) (by rw [hr15]) _ _ (sl 15) rfl) $$ Ha
  iintro Ha
  iapply (wp_load_all c (Memref.whole cc0_stg5_0) _ _ o0 (rd_whole cc0_stg5_0 _ (by funext a; fin_cases a <;> rfl) _) (View.set_whole _)) $$ Hout
  iintro Hout
  iapply (wp_store_all c (Memref.whole cc0_stg5_0) _ _ o0 (outV w xs (A c 15)) (wr_whole cc0_stg5_0 _ (by funext a; fin_cases a <;> rfl) _ _) (View.set_whole _)) $$ Hout
  iintro Hout
  ihave Hall := (kept_all c) $$ [Hkept Ha]
  · isplitl [Hkept]; · iexact Hkept
    iapply (owns_anyS c _ _ _); iexact Ha
  have ecw : ∀ b, cw b c 15 = 6 := fun b => by have := par_lt b c; unfold cw; omega
  rw [ecw, ecw]
  imod (close_d X A K KS c) $$ [Hp] with HzD
  · isplitr; · iexact Hrec
    iexact Hp
  imod (close_bar X A K KS c) $$ [HatB] with HzB
  · isplitr; · iexact Hrec
    iexact HatB
  imod (close_cr X A K KS c true) $$ [HcT] with HzT
  · isplitr; · iexact Hrec
    iexact HcT
  imod (close_cr X A K KS c false) $$ [HcF] with HzF
  · isplitr; · iexact Hrec
    iexact HcF
  rw [wp_ret]; imodintro
  iapply Hk
  unfold bodyOut wts
  isplitl [HO]; · iexact HO
  isplitl [Hall]; · iexact Hall
  isplitl [Hxo]; · iexists _; iexact Hxo
  isplitl [Hx]; · iexact Hx
  isplitl [Hw0 Hw1 Hw2 Hw3]
  · isplitl [Hw0]; · iexact Hw0
    isplitl [Hw1]; · iexact Hw1
    isplitl [Hw2]; · iexact Hw2
    iexact Hw3
  isplitl [Hout]; · iexact Hout
  isplitl [HzB]; · iexact HzB
  isplitl [HzT HzF]
  · isplitl [HzT]; · iexact HzT
    iexact HzF
  iexact HzD

end Cert.KernelIdeal.Mesh
-- ==== Proof.DealI.lean ====
/- What the launch deals: the tokens to the devices that pay with them, the rights to the slots, and the credit. -/
module

public import proofs.«01_k».proof.Proof.BodyI

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The duty tokens, dealt to the device that pays with them -/

/-- A device's tokens: two for the barrier, two for the transfer at entry, five for each step. -/
abbrev TI : Type := Fin 4 ⊕ (Fin 15 × Fin 5)

/-- The ring of the transfer at entry. -/
def sb (c : Dev nD) : Bool := decide (c.val % 2 = 1)
theorem par_sb (c : Dev nD) : par (sb c) c = 1 := by revert c; decide
theorem rg_sb (c : Dev nD) : rg c 15 = sb c := by revert c; decide

/-- The cell, round and duty of a token of device `c`. -/
def code (x : Dev nD × TI) : (Dev nD × CI) × ℕ × ℕ := match x.2 with
  | .inl 0 => ((outN true x.1, none), 0, 1)
  | .inl 1 => ((outN false x.1, none), 0, 0)
  | .inl 2 => ((x.1, some (.inr (sb x.1, 0, 0))), 0, 0)
  | .inl 3 => ((outN (sb x.1) x.1, some (.inr (sb x.1, 1, 0))), 0, 0)
  | .inr (h, 0) => ((x.1, some (.inr (rg x.1 h.val, 0, ks 0 h.val))), kr 0 h.val, 0)
  | .inr (h, 1) => ((nx x.1 h.val, some (.inr (rg x.1 h.val, 1, ks 1 (h.val + 1)))), kr 1 (h.val + 1), 0)
  | .inr (h, 2) => ((x.1, some (.inr (rg x.1 h.val, 2, ks 2 h.val))), kr 2 h.val, 0)
  | .inr (h, 3) => ((nx x.1 h.val, some (.inr (rg x.1 h.val, 3, ks 3 (h.val + 1)))), kr 3 (h.val + 1), 0)
  | .inr (h, 4) => ((pv x.1 h.val, some (.inl (rg x.1 h.val))), 0, h.val / 2)

/-- Whose token a cell, round and duty is, and which. -/
def uncode (y : (Dev nD × CI) × ℕ × ℕ) : Dev nD × ℕ × ℕ := match y.1.2 with
  | none => (outN (decide (y.2.2 = 0)) y.1.1, 0, y.2.2)
  | some (.inl b) => (outN b y.1.1, 1, 2 * y.2.2 + par b (outN b y.1.1))
  | some (.inr (b, 0, s)) => (y.1.1, 2, gsx (par b y.1.1) s.val y.2.1)
  | some (.inr (b, 1, s)) => (outN (!b) y.1.1, 3, hx (par b y.1.1) s.val y.2.1)
  | some (.inr (b, 2, s)) => (y.1.1, 4, hsa (par b y.1.1) s.val y.2.1)
  | some (.inr (b, 3, s)) => (outN (!b) y.1.1, 5, ha (par b y.1.1) s.val y.2.1)
def ticode (i : TI) : ℕ × ℕ := match i with
  | .inl 0 => (0, 1) | .inl 1 => (0, 0) | .inl 2 => (2, 0) | .inl 3 => (3, 0)
  | .inr (h, 0) => (2, h.val + 1) | .inr (h, 1) => (3, h.val + 1) | .inr (h, 2) => (4, h.val)
  | .inr (h, 3) => (5, h.val + 1) | .inr (h, 4) => (1, h.val)

theorem uncode_code : ∀ (c : Dev nD) (i : TI), uncode (code (c, i)) = (c, ticode i) := by decide +kernel
theorem ticode_inj : ∀ i j : TI, ticode i = ticode j → i = j := by decide +kernel
theorem code_inj : Function.Injective code := by
  rintro ⟨c, i⟩ ⟨d, j⟩ h
  have h1 := (uncode_code c i).symm.trans ((congrArg uncode h).trans (uncode_code d j))
  obtain rfl : c = d := congrArg Prod.fst h1
  obtain rfl : i = j := ticode_inj i j (congrArg Prod.snd h1)
  rfl

theorem kcell_inj : Function.Injective (kcell : Dev nD × CI → GSem nD τ sig) := by
  rintro ⟨c, i⟩ ⟨d, j⟩ h
  obtain rfl : c = d := by
    have h1 : (kcell (c, i)).1.1 = (kcell (d, j)).1.1 := congrArg (fun g : GSem nD τ sig => g.1.1) h
    rcases i with _ | (i | i) <;> rcases j with _ | (j | j) <;> exact h1
  have h2 : (kcell (c, i)).2 = (kcell (c, j)).2 := congrArg Prod.snd h
  rcases i with _ | (i | i) <;> rcases j with _ | (j | j)
  · rfl
  · exact absurd (SemLoc.reg.inj h2).symm (cr_ne_bar j)
  · cases h2
  · exact absurd (SemLoc.reg.inj h2) (cr_ne_bar i)
  · rw [cr_inj i j (SemLoc.reg.inj h2)]
  · cases h2
  · cases h2
  · cases h2
  · have h3 : dsem i.1 i.2.1 i.2.2 = dsem j.1 j.2.1 j.2.2 := SemLoc.dma.inj h2
    have h4 := (dec_dsem i.1 i.2.1 i.2.2).symm.trans ((congrArg dec h3).trans (dec_dsem j.1 j.2.1 j.2.2))
    obtain ⟨a, b, e⟩ := i; obtain ⟨a', b', e'⟩ := j
    cases h4; rfl

def tokOf (x : Dev nD × TI) : GSem nD τ sig × ℕ × ℕ := (kcell (code x).1, (code x).2)
theorem tokOf_inj : Function.Injective tokOf := fun x y h => code_inj (by
  have h1 : (code x).1 = (code y).1 := kcell_inj (congrArg Prod.fst h)
  have h2 : (tokOf x).2 = (tokOf y).2 := congrArg Prod.snd h
  exact Prod.ext h1 h2)

def meshCells : Finset (GSem nD τ sig) := Finset.univ.map ⟨kcell, kcell_inj⟩
def meshToks : Finset (GSem nD τ sig × ℕ × ℕ) := Finset.univ.map ⟨tokOf, tokOf_inj⟩

/-- The tokens of device `c` of step `h`. -/
def tokS (c : Dev nD) (h : ℕ) : sProp 𝕄 :=
  iprop(dutyTok (ER (F := F)) (dcell c (rg c h) 0 (ks 0 h)) (kr 0 h) 0
    ∗ dutyTok (ER (F := F)) (dcell (nx c h) (rg c h) 1 (ks 1 (h + 1))) (kr 1 (h + 1)) 0
    ∗ dutyTok (ER (F := F)) (dcell c (rg c h) 2 (ks 2 h)) (kr 2 h) 0
    ∗ dutyTok (ER (F := F)) (dcell (nx c h) (rg c h) 3 (ks 3 (h + 1))) (kr 3 (h + 1)) 0
    ∗ dutyTok (ER (F := F)) (crCell (pv c h) (rg c h)) 0 (h / 2))
/-- The tokens of device `c` at entry. -/
def tokE (c : Dev nD) : sProp 𝕄 :=
  iprop(dutyTok (ER (F := F)) (barCell (outN true c)) 0 1 ∗ dutyTok (ER (F := F)) (barCell (outN false c)) 0 0
    ∗ dutyTok (ER (F := F)) (dcell c (sb c) 0 0) 0 0 ∗ dutyTok (ER (F := F)) (dcell (outN (sb c) c) (sb c) 1 0) 0 0)
def toks (c : Dev nD) : sProp 𝕄 := iprop(tokE (F := F) c ∗ bigSep (Finset.Ico 0 15) (tokS (F := F) c))

theorem fin15 (Φ : ℕ → sProp 𝕄) : (bigSep Finset.univ fun h : Fin 15 => Φ h.val) = bigSep (Finset.Ico 0 15) Φ := by
  rw [show Finset.Ico 0 15 = (Finset.univ : Finset (Fin 15)).map Fin.valEmbedding from by decide, bigSep_map]; rfl
theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

theorem meshToks_eq : bigSep meshToks (fun x => (dutyTok (ER (F := F)) x.1 x.2.1 x.2.2 : sProp 𝕄)) = bigSep Finset.univ fun c : Dev nD => toks c := by
  unfold meshToks
  rw [bigSep_map, bigSep_univ_prod]
  refine bigSep_congr fun c _ => ?_
  have e1 : (bigSep Finset.univ fun i : Fin 4 => (dutyTok (ER (F := F)) (tokOf (c, .inl i)).1 (tokOf (c, .inl i)).2.1 (tokOf (c, .inl i)).2.2 : sProp 𝕄)) = tokE c := by
    rw [fin4]; rfl
  have e2 : (bigSep Finset.univ fun y : Fin 15 × Fin 5 => (dutyTok (ER (F := F)) (tokOf (c, .inr y)).1 (tokOf (c, .inr y)).2.1 (tokOf (c, .inr y)).2.2 : sProp 𝕄))
      = bigSep (Finset.Ico 0 15) (tokS c) := by
    rw [bigSep_univ_prod, ← fin15]
    refine bigSep_congr fun h _ => ?_
    rw [fin5]; rfl
  unfold toks
  rw [← e1, ← e2]
  exact bigSep_univ_sum _

/-! ## The rights to hand back a slot and to take one back -/

def rdS (c : Dev nD) (h : ℕ) : sProp 𝕄 := Release.readerAt (ES (F := F)) (c, rg c h, h / 2) 0
def wrS (c : Dev nD) (h : ℕ) : sProp 𝕄 := Release.writeTok (ES (F := F)) (nx c h, rg c h, (h - 3) / 2) 1

theorem rd_sub : ∀ x : Dev nD × Fin 12, ((x.1, rg x.1 x.2.val, x.2.val / 2) : Key) ∈ keys := by decide +kernel
theorem rd_inv : ∀ x : Dev nD × Fin 12, x.2.val = 2 * (x.2.val / 2) + par (rg x.1 x.2.val) x.1 := by decide +kernel
theorem wr_sub : ∀ x : Dev nD × Fin 12, ((nx x.1 (x.2.val + 3), rg x.1 (x.2.val + 3), (x.2.val + 3 - 3) / 2) : Key) ∈ keys := by decide +kernel
theorem wr_inv : ∀ x : Dev nD × Fin 12,
    (x.1, x.2.val) = (outN (!(rg x.1 (x.2.val + 3))) (nx x.1 (x.2.val + 3)), 2 * ((x.2.val + 3 - 3) / 2) + par (rg x.1 (x.2.val + 3)) (nx x.1 (x.2.val + 3))) := by decide +kernel

theorem fin12 (Φ : ℕ → sProp 𝕄) : (bigSep Finset.univ fun h : Fin 12 => Φ h.val) = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) (fun h : Fin 12 => Φ h.val)
theorem ico15 (Φ : ℕ → sProp 𝕄) : bigSep (Finset.Ico 0 15) Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_eq_bigSepL_of_eq [0, 1, 2, 3, 4, 5, 6, 7, 8, 9, 10, 11, 12, 13, 14] (by decide) (by decide) Φ

theorem first12 (Φ : ℕ → sProp 𝕄) : (bigSep Finset.univ fun h : Fin 12 => Φ h.val) ⊢ bigSep (Finset.Ico 0 15) (fun h => if h ≤ 11 then Φ h else iprop(emp)) := by
  rw [fin12, ico15]
  simp +decide only [ite_true, ite_false]
  iintro ⟨H0, H1, H2, H3, H4, H5, H6, H7, H8, H9, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitr; · iempintro
  isplitr; · iempintro
  iempintro
theorem last12 (Φ : ℕ → sProp 𝕄) : (bigSep Finset.univ fun h : Fin 12 => Φ (h.val + 3)) ⊢ bigSep (Finset.Ico 0 15) (fun h => if h < 3 then iprop(emp) else Φ h) := by
  rw [fin12 (fun h => Φ (h + 3)), ico15]
  simp +decide only [ite_true, ite_false]
  iintro ⟨H0, H1, H2, H3, H4, H5, H6, H7, H8, H9, H10, H11⟩
  isplitr; · iempintro
  isplitr; · iempintro
  isplitr; · iempintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem rd_deal : bigSep keys (fun k => (Release.readerAt (ES (F := F)) k 0 : sProp 𝕄))
    ⊢ bigSep Finset.univ fun c : Dev nD => bigSep (Finset.Ico 0 15) (fun h => if h ≤ 11 then rdS (F := F) c h else iprop(emp)) := by
  have hinj : Set.InjOn (fun x : Dev nD × Fin 12 => ((x.1, rg x.1 x.2.val, x.2.val / 2) : Key)) (Finset.univ : Finset (Dev nD × Fin 12)) := fun x _ y _ h => by
    have h1 : x.1 = y.1 := congrArg (fun k : Key => k.1) h
    have h2 : rg x.1 x.2.val = rg y.1 y.2.val := congrArg (fun k : Key => k.2.1) h
    have h3 : x.2.val / 2 = y.2.val / 2 := congrArg (fun k : Key => k.2.2) h
    refine Prod.ext h1 (Fin.ext ?_)
    rw [rd_inv x, rd_inv y, h3, h2, h1]
  have e := bigSep_image_of_injOn hinj (fun k => (Release.readerAt (ES (F := F)) k 0 : sProp 𝕄))
  have hs : (Finset.univ : Finset (Dev nD × Fin 12)).image (fun x => ((x.1, rg x.1 x.2.val, x.2.val / 2) : Key)) ⊆ keys := by
    intro k hk
    obtain ⟨x, -, rfl⟩ := Finset.mem_image.mp hk
    exact rd_sub x
  refine BIBase.Entails.trans (bigSep_subset hs) ?_
  rw [e, bigSep_univ_prod]
  exact bigSep_mono fun c _ => first12 (rdS (F := F) c)

theorem wr_deal : bigSep (keys ×ˢ Finset.range 1) (fun x => (Release.writeTok (ES (F := F)) x.1 (x.2 + 1) : sProp 𝕄))
    ⊢ bigSep Finset.univ fun c : Dev nD => bigSep (Finset.Ico 0 15) (fun h => if h < 3 then iprop(emp) else wrS (F := F) c h) := by
  have hinj : Set.InjOn (fun x : Dev nD × Fin 12 => (((nx x.1 (x.2.val + 3), rg x.1 (x.2.val + 3), (x.2.val + 3 - 3) / 2), 0) : Key × ℕ)) (Finset.univ : Finset (Dev nD × Fin 12)) := fun x _ y _ h => by
    have h1 : nx x.1 (x.2.val + 3) = nx y.1 (y.2.val + 3) := congrArg (fun k : Key × ℕ => k.1.1) h
    have h2 : rg x.1 (x.2.val + 3) = rg y.1 (y.2.val + 3) := congrArg (fun k : Key × ℕ => k.1.2.1) h
    have h3 : (x.2.val + 3 - 3) / 2 = (y.2.val + 3 - 3) / 2 := congrArg (fun k : Key × ℕ => k.1.2.2) h
    have h4 : (x.1, x.2.val) = (y.1, y.2.val) := by rw [wr_inv x, wr_inv y, h3, h2, h1]
    exact Prod.ext (Prod.mk.inj h4).1 (Fin.ext (Prod.mk.inj h4).2)
  have e := bigSep_image_of_injOn hinj (fun x => (Release.writeTok (ES (F := F)) x.1 (x.2 + 1) : sProp 𝕄))
  have hs : (Finset.univ : Finset (Dev nD × Fin 12)).image (fun x => (((nx x.1 (x.2.val + 3), rg x.1 (x.2.val + 3), (x.2.val + 3 - 3) / 2), 0) : Key × ℕ)) ⊆ keys ×ˢ Finset.range 1 := by
    intro k hk
    obtain ⟨x, -, rfl⟩ := Finset.mem_image.mp hk
    exact Finset.mem_product.mpr ⟨wr_sub x, Finset.mem_range.mpr Nat.one_pos⟩
  refine BIBase.Entails.trans (bigSep_subset hs) ?_
  rw [e, bigSep_univ_prod]
  exact bigSep_mono fun c _ => last12 (wrS (F := F) c)

/-! ## What the devices owe at launch, as the credit of those who wait -/

theorem cred_deal (D T : Dev nD → CellTallies nD τ sig ℕ) (f g : Dev nD → Dev nD) (h1 : ∀ c, f (g c) = c) (h2 : ∀ d, g (f d) = d)
    (hD : ∀ d, D d = T (f d)) (hT : ∀ d s, T d s ≠ 0 → s.1 = (d.tc : Thread nD τ)) (c : Dev nD) :
    (Pipeline.launchCred D c : sProp 𝕄) ⊢ cred (T c) := by
  refine Entails.of_eq (Pipeline.launchCred_of_sum D T ?_ hT c)
  rw [Finset.sum_congr rfl fun d _ => hD d]
  exact Equiv.sum_comp (⟨f, g, h2, h1⟩ : Dev nD ≃ Dev nD) T

theorem tally_own (d : Dev nD) (sm : SemLoc sig) (ι k : ℕ) (s : GSem nD τ sig) (h : (tallyAt ((d : Thread nD τ), sm) ι k : CellTallies nD τ sig ℕ) s ≠ 0) :
    s.1 = (d.tc : Thread nD τ) := by
  by_contra hne
  refine h ?_
  rw [tallyAt_ne_cell (fun e => hne (congrArg Prod.fst e))]

theorem rg_in (c : Dev nD) (h : ℕ) (b : Bool) : rg (outN b c) (h + 1) = rg c h := by
  unfold rg
  have h1 : ((outN b c).val + 1) % 2 = c.val % 2 := by revert b c; decide
  have : ((outN b c).val + (h + 1)) % 2 = (c.val + h) % 2 := by omega
  rw [this]
theorem rg_three (c : Dev nD) (h : ℕ) : rg c (h + 3) = rg c (h + 1) := by
  unfold rg; congr 1; apply propext; omega

theorem cred_a (c : Dev nD) (h : ℕ) : (Pipeline.launchCred (fun d => oa d h) c : sProp 𝕄) ⊢ cred (tallyAt (dcell c (rg c (h + 1)) 3 (ks 3 (h + 1))) (h + 3) N) := by
  refine cred_deal (fun d => oa d h) (fun c => tallyAt (dcell c (rg c (h + 1)) 3 (ks 3 (h + 1))) (h + 3) N) (fun d => nx d h) (fun c => outN (!(rg c (h + 1))) c) ?_ ?_ ?_ ?_ c
  · intro c
    have e : rg (outN (!(rg c (h + 1))) c) h = rg c (h + 1) := by
      rw [← rg_in (outN (!(rg c (h + 1))) c) h (rg c (h + 1)), outN_inN]
    show outN (rg (outN (!(rg c (h + 1))) c) h) (outN (!(rg c (h + 1))) c) = c
    rw [e, outN_inN]
  · intro d
    show outN (!(rg (outN (rg d h) d) (h + 1))) (outN (rg d h) d) = d
    rw [rg_in, inN_outN]
  · intro d
    show tallyAt (dcell (outN (rg d h) d) (rg d h) 3 (sl (h + 1))) (h + 3) N = tallyAt (dcell (outN (rg d h) d) (rg (outN (rg d h) d) (h + 1)) 3 (sl (h + 1))) (h + 3) N
    rw [rg_in]
  · exact fun d s => tally_own d _ _ _ s

theorem cred_x (c : Dev nD) (h : ℕ) (hh : h ≤ 13) : (Pipeline.launchCred (fun d => ox d h) c : sProp 𝕄) ⊢ cred (tallyAt (dcell c (rg c (h + 1)) 1 (ks 1 (h + 1))) (h + 3) N) := by
  refine cred_deal (fun d => ox d h) (fun c => tallyAt (dcell c (rg c (h + 1)) 1 (ks 1 (h + 1))) (h + 3) N) (fun d => nx d h) (fun c => outN (!(rg c (h + 1))) c) ?_ ?_ ?_ ?_ c
  · intro c
    have e : rg (outN (!(rg c (h + 1))) c) h = rg c (h + 1) := by
      rw [← rg_in (outN (!(rg c (h + 1))) c) h (rg c (h + 1)), outN_inN]
    show outN (rg (outN (!(rg c (h + 1))) c) h) (outN (!(rg c (h + 1))) c) = c
    rw [e, outN_inN]
  · intro d
    show outN (!(rg (outN (rg d h) d) (h + 1))) (outN (rg d h) d) = d
    rw [rg_in, inN_outN]
  · intro d
    unfold ox
    rw [if_pos hh]
    show tallyAt (dcell (outN (rg d h) d) (rg d h) 1 (sl (h + 1))) (h + 3) N = tallyAt (dcell (outN (rg d h) d) (rg (outN (rg d h) d) (h + 1)) 1 (sl (h + 1))) (h + 3) N
    rw [rg_in]
  · exact fun d s => tally_own d _ _ _ s

theorem cred_xi (c : Dev nD) (h : ℕ) : (Pipeline.launchCred (fun d => ox d h) c : sProp 𝕄)
    ⊢ (if h ≤ 13 then cred (tallyAt (dcell c (rg c (h + 1)) 1 (ks 1 (h + 1))) (h + 3) N) else iprop(emp)) := by
  split
  · rename_i hh; exact cred_x c h hh
  · exact Affine.affine

theorem cred_cr (c : Dev nD) (h : ℕ) (hh : h ≤ 11) : (Pipeline.launchCred (fun d => ocr d h) c : sProp 𝕄) ⊢ cred (tallyAt (crCell c (rg c (h + 3))) (h + 5) 1) := by
  refine cred_deal (fun d => ocr d h) (fun c => tallyAt (crCell c (rg c (h + 3))) (h + 5) 1) (fun d => pv d h) (fun c => outN (rg c (h + 3)) c) ?_ ?_ ?_ ?_ c
  · intro c
    rw [rg_three]
    have e : rg (outN (rg c (h + 1)) c) h = rg c (h + 1) := by
      rw [← rg_in (outN (rg c (h + 1)) c) h (!(rg c (h + 1))), inN_outN]
    show outN (!(rg (outN (rg c (h + 1)) c) h)) (outN (rg c (h + 1)) c) = c
    rw [e, inN_outN]
  · intro d
    show outN (rg (outN (!(rg d h)) d) (h + 3)) (outN (!(rg d h)) d) = d
    rw [rg_three, rg_in, outN_inN]
  · intro d
    unfold ocr
    rw [if_pos hh]
    show tallyAt (crCell (outN (!(rg d h)) d) (rg d h)) (h + 5) 1 = tallyAt (crCell (outN (!(rg d h)) d) (rg (outN (!(rg d h)) d) (h + 3))) (h + 5) 1
    rw [rg_three, rg_in]
  · exact fun d s => tally_own d _ _ _ s

theorem cred_bar (b : Bool) (c : Dev nD) : (Pipeline.launchCred (fun d => tallyAt (barCell (outN b d)) 1 1) c : sProp 𝕄) ⊢ cred (tallyAt (barCell c) 1 1) :=
  Pipeline.launchCred_tallyAt (SemLoc.reg barS) (outN b) (outN (!b)) (outN_inN b) (inN_outN b) 1 1 c

theorem sb_out (b : Bool) (c : Dev nD) : sb (outN b c) = !(sb c) := by revert b c; decide
theorem rg_zero (c : Dev nD) : rg c 0 = !(sb c) := by revert c; decide

theorem cred_pre (c : Dev nD) : (Pipeline.launchCred (fun d => tallyAt (dcell (outN (sb d) d) (sb d) 1 0) 2 N) c : sProp 𝕄) ⊢ cred (tallyAt (dcell c (rg c 0) 1 (ks 1 0)) 2 N) := by
  refine cred_deal (fun d => tallyAt (dcell (outN (sb d) d) (sb d) 1 0) 2 N) (fun c => tallyAt (dcell c (rg c 0) 1 (ks 1 0)) 2 N) (fun d => outN (sb d) d) (fun c => outN (sb c) c) ?_ ?_ ?_ ?_ c
  · intro c; revert c; decide
  · intro c; revert c; decide
  · intro d
    show _ = tallyAt (dcell (outN (sb d) d) (rg (outN (sb d) d) 0) 1 (ks 1 0)) 2 N
    rw [rg_zero, sb_out, Bool.not_not]; rfl
  · exact fun d s => tally_own d _ _ _ s

/-- The credit of the waits of step `h`. -/
def lauC (c : Dev nD) (h : ℕ) : sProp 𝕄 :=
  iprop((if h < 3 then iprop(emp) else cred (tallyAt (crCell c (rg c h)) (h + 2) 1))
    ∗ cred (tallyAt (dcell c (rg c h) 1 (ks 1 h)) (h + 2) N)
    ∗ (if h = 0 then iprop(emp) else cred (tallyAt (dcell c (rg c h) 3 (ks 3 h)) (h + 2) N)))
def creds (c : Dev nD) : sProp 𝕄 :=
  iprop(cred (tallyAt (barCell c) 1 2) ∗ bigSep (Finset.Ico 0 15) (lauC (F := F) c) ∗ cred (tallyAt (dcell c (rg c 15) 3 (ks 3 15)) 17 N))

theorem shift1 (Φ : ℕ → sProp 𝕄) : bigSep (Finset.Ico 0 15) (fun h => Φ (h + 1)) ⊢ iprop(bigSep (Finset.Ico 0 15) (fun h => if h = 0 then iprop(emp) else Φ h) ∗ Φ 15) := by
  rw [ico15, ico15]
  simp +decide only [ite_true, ite_false]
  iintro ⟨H0, H1, H2, H3, H4, H5, H6, H7, H8, H9, H10, H11, H12, H13, H14⟩
  isplitr [H14]; swap; · iexact H14
  isplitr; · iempintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13
theorem shift1' (Φ : ℕ → sProp 𝕄) : iprop(Φ 0 ∗ bigSep (Finset.Ico 0 15) (fun h => if h ≤ 13 then Φ (h + 1) else iprop(emp))) ⊢ bigSep (Finset.Ico 0 15) Φ := by
  rw [ico15, ico15]
  simp +decide only [ite_true, ite_false]
  iintro ⟨H0, H1, H2, H3, H4, H5, H6, H7, H8, H9, H10, H11, H12, H13, H14, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14
theorem shift3 (Φ : ℕ → sProp 𝕄) : bigSep (Finset.Ico 0 15) (fun h => if h ≤ 11 then Φ (h + 3) else iprop(emp)) ⊢ bigSep (Finset.Ico 0 15) (fun h => if h < 3 then iprop(emp) else Φ h) := by
  rw [ico15, ico15]
  simp +decide only [ite_true, ite_false]
  iintro ⟨H0, H1, H2, H3, H4, H5, H6, H7, H8, H9, H10, H11, -⟩
  isplitr; · iempintro
  isplitr; · iempintro
  isplitr; · iempintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem creds_intro (c : Dev nD) : (Pipeline.launchCred (fun d => OweAll d (sb d)) c : sProp 𝕄) ⊢ creds c := by
  have e : (Pipeline.launchCred (fun d => OweAll d (sb d)) c : sProp 𝕄)
      = iprop((((bigSep (Finset.Ico 0 15) fun h => iprop((Pipeline.launchCred (fun d => ocr d h) c ∗ Pipeline.launchCred (fun d => oa d h) c) ∗ Pipeline.launchCred (fun d => ox d h) c))
          ∗ Pipeline.launchCred (fun d => tallyAt (dcell (outN (sb d) d) (sb d) 1 0) 2 N) c)
          ∗ Pipeline.launchCred (fun d => tallyAt (barCell (outN false d)) 1 1) c) ∗ Pipeline.launchCred (fun d => tallyAt (barCell (outN true d)) 1 1) c) := by
    show (Pipeline.launchCred (fun d => (∑ h' ∈ Finset.Ico 0 15, (ocr d h' + oa d h' + ox d h')) + tallyAt (dcell (outN (sb d) d) (sb d) 1 0) 2 N + tallyAt (barCell (outN false d)) 1 1 + tallyAt (barCell (outN true d)) 1 1) c : sProp 𝕄) = _
    rw [Pipeline.launchCred_add, Pipeline.launchCred_add, Pipeline.launchCred_add, Pipeline.launchCred_sum]
    simp only [Pipeline.launchCred_add]
  rw [e]
  have e2 : (bigSep (Finset.Ico 0 15) fun h => (iprop((Pipeline.launchCred (fun d => ocr d h) c ∗ Pipeline.launchCred (fun d => oa d h) c) ∗ Pipeline.launchCred (fun d => ox d h) c) : sProp 𝕄))
      = iprop(((bigSep (Finset.Ico 0 15) fun h => Pipeline.launchCred (fun d => ocr d h) c) ∗ (bigSep (Finset.Ico 0 15) fun h => Pipeline.launchCred (fun d => oa d h) c))
        ∗ (bigSep (Finset.Ico 0 15) fun h => Pipeline.launchCred (fun d => ox d h) c)) := by
    rw [bigSep_sep', bigSep_sep']
  rw [e2]
  have e3 : bigSep (Finset.Ico 0 15) (lauC (F := F) c)
      = iprop((bigSep (Finset.Ico 0 15) fun h => if h < 3 then iprop(emp) else cred (tallyAt (crCell c (rg c h)) (h + 2) 1))
        ∗ (bigSep (Finset.Ico 0 15) fun h => cred (tallyAt (dcell c (rg c h) 1 (ks 1 h)) (h + 2) N))
        ∗ (bigSep (Finset.Ico 0 15) fun h => if h = 0 then iprop(emp) else cred (tallyAt (dcell c (rg c h) 3 (ks 3 h)) (h + 2) N))) := by
    unfold lauC
    rw [bigSep_sep', bigSep_sep']
  unfold creds
  rw [e3]
  iintro ⟨⟨⟨⟨⟨Hcr, Ha⟩, Hx⟩, Hp⟩, HbF⟩, HbT⟩
  ihave HbF' := (cred_bar (F := F) false c) $$ HbF
  ihave HbT' := (cred_bar (F := F) true c) $$ HbT
  ihave Hp' := (cred_pre (F := F) c) $$ Hp
  ihave Hcr' := (BIBase.Entails.trans (bigSep_mono (s := Finset.Ico 0 15) fun h _ => (show (Pipeline.launchCred (fun d => ocr d h) c : sProp 𝕄) ⊢ (if h ≤ 11 then cred (tallyAt (crCell c (rg c (h + 3))) (h + 5) 1) else iprop(emp)) from by
      split
      · rename_i hh; exact cred_cr c h hh
      · exact Affine.affine)) (shift3 fun h => (cred (tallyAt (crCell c (rg c h)) (h + 2) 1) : sProp 𝕄))) $$ Hcr
  ihave Hx' := (show (bigSep (Finset.Ico 0 15) fun h => (Pipeline.launchCred (fun d => ox d h) c : sProp 𝕄))
      ⊢ bigSep (Finset.Ico 0 15) fun h => (if h ≤ 13 then cred (tallyAt (dcell c (rg c (h + 1)) 1 (ks 1 (h + 1))) (h + 3) N) else iprop(emp)) from
    bigSep_mono (s := Finset.Ico 0 15) fun h _ => cred_xi c h) $$ Hx
  ihave Hx2 := (shift1' fun h => (cred (tallyAt (dcell c (rg c h) 1 (ks 1 h)) (h + 2) N) : sProp 𝕄)) $$ [Hp' Hx']
  · isplitl [Hp']; · iexact Hp'
    iexact Hx'
  ihave Ha' := (BIBase.Entails.trans (bigSep_mono (s := Finset.Ico 0 15) fun h _ => cred_a (F := F) c h) (shift1 fun h => (cred (tallyAt (dcell c (rg c h) 3 (ks 3 h)) (h + 2) N) : sProp 𝕄))) $$ Ha
  icases Ha' with ⟨Ha, Hl⟩
  isplitl [HbF' HbT']
  · have e4 : (cred (tallyAt (barCell c) 1 2) : sProp 𝕄) = cred (tallyAt (barCell c) 1 1 + tallyAt (barCell c) 1 1) := by rw [tallyAt_add]
    rw [e4]
    iapply (cred_add _ _).2
    isplitl [HbF'] <;> iassumption
  isplitr [Hl]
  · isplitl [Hcr']; · iexact Hcr'
    isplitl [Hx2]; · iexact Hx2
    iexact Ha
  · iexact Hl

end Cert.KernelIdeal.Mesh

end
-- ==== Proof.DatI.lean ====
/- The contents of every buffer at each point of the call, the partial sums around the rings, and the body's obligation. -/
module

public import proofs.«01_k».proof.Proof.DealI
public import proofs.«01_k».proof.Proof.Gen.KernelIdeal.Points

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What the devices hold at launch, and the partial sums -/

def s₀ : MemSt nD τ sig (Elt F) := ⟨m, fun _ => 0, ρ⟩

def xstg (c : Dev nD) : Vec F S1x512x1024 .f32 := (win0_0.blk (0 : Fin 1)).view.read (Elt F) ((s₀ m ρ).mem ((c : Thread nD τ).loc main_arg0))
def wq (c : Dev nD) : Vec F S1024x1024 .f32 := (win0_1.blk (0 : Fin 1)).view.read (Elt F) ((s₀ m ρ).mem ((c : Thread nD τ).loc main_arg1))
def wo (c : Dev nD) : Vec F S1024x1024 .f32 := (win0_2.blk (0 : Fin 1)).view.read (Elt F) ((s₀ m ρ).mem ((c : Thread nD τ).loc main_arg4))
def wk (c : Dev nD) : Vec F S1024x1024 .f32 := (win0_3.blk (0 : Fin 1)).view.read (Elt F) ((s₀ m ρ).mem ((c : Thread nD τ).loc main_arg2))
def wv (c : Dev nD) : Vec F S1024x1024 .f32 := (win0_4.blk (0 : Fin 1)).view.read (Elt F) ((s₀ m ρ).mem ((c : Thread nD τ).loc main_arg3))
def ww (c : Dev nD) : Fin 4 → Vec F S1024x1024 .f32 := ![wq m ρ c, wo m ρ c, wk m ρ c, wv m ρ c]

/-- The device that adds its share to `o`'s partial sum in step `h`. -/
def dv (o : Dev nD) (h : ℕ) : Dev nD :=
  if o.val % 2 = 1 then ⟨(o.val + 31 - h % 16) % 16, Nat.mod_lt _ (by decide)⟩ else ⟨(o.val + 1 + h) % 16, Nat.mod_lt _ (by decide)⟩
theorem dv_org (c : Dev nD) (h : ℕ) (hh : h < 15) : dv (org c h) h = c := by
  have : ∀ h : Fin 15, dv (org c h.val) h.val = c := by revert c; decide
  exact this ⟨h, hh⟩

def XX (o : Dev nD) : Vec F S512x1024 .bf16 := k0_pay36 (xstg m ρ o)
def AA (o : Dev nD) : ℕ → Vec F S512x1024 .bf16
  | 0 => down (k0_pay37 (F := F))
  | h + 1 => stepVal (ww m ρ (dv o h)) (XX m ρ o) (AA o h)
theorem AA_step (c : Dev nD) (h : ℕ) (hh : h < 15) :
    AA m ρ (org c h) (h + 1) = stepVal (ww m ρ c) (XX m ρ (org c h)) (AA m ρ (org c h) h) := by
  show stepVal (ww m ρ (dv (org c h) h)) (XX m ρ (org c h)) (AA m ρ (org c h) h) = _
  rw [dv_org c h hh]

def outAt (c : Dev nD) : Vec F S1x512x1024 .f32 := outV (ww m ρ c) (xstg m ρ c) (AA m ρ c 15)

abbrev recsM (K : Dev nD × CI → ℕ) (KS : Key → ℕ) : sProp 𝕄 := recs (XX m ρ) (AA m ρ) K KS
abbrev RdM : Rounds.Schedule (GSem nD τ sig) ℕ 𝕄 := meshRd (F := F) (XX m ρ) (AA m ρ)

/-- What no wait has yet touched: positions, tokens, rights to the slots. -/
def ghost (c : Dev nD) : sProp 𝕄 :=
  iprop((bigSep Finset.univ fun i : CI => atPos (ER (F := F)) (kcell (c, i)) 0 ∅ 0) ∗ toks (F := F) c
    ∗ bigSep (Finset.Ico 0 15) (fun h => if h ≤ 11 then rdS (F := F) c h else iprop(emp))
    ∗ bigSep (Finset.Ico 0 15) (fun h => if h < 3 then iprop(emp) else wrS (F := F) c h))

def start (c : Dev nD) : sProp 𝕄 := iprop((∃ K KS, recsM m ρ K KS) ∗ ghost (F := F) c ∗ creds (F := F) c)
def scr (c : Dev nD) : sProp 𝕄 :=
  iprop((allS (F := F) c (xM true) ∗ allS (F := F) c (aM true) ∗ allS (F := F) c (xM false) ∗ allS (F := F) c (aM false)) ∗ ∃ f, owns (c : Thread nD τ) xoM fullShare f)
def Φ₀ (c : Dev nD) : sProp 𝕄 := iprop(start m ρ c ∗ scr (F := F) c)
def Φ₁ (c : Dev nD) : sProp 𝕄 :=
  iprop(scr (F := F) c ∗ semVal (barCell c) 0 ∗ (semVal (crCell c true) 0 ∗ semVal (crCell c false) 0)
    ∗ bigSep Finset.univ fun x : CX => semVal (dcell c x.1 x.2.1 x.2.2) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wq m ρ c
    | ⟨2, _⟩ => wo m ρ c
    | ⟨3, _⟩ => wk m ρ c
    | ⟨4, _⟩ => wv m ρ c
    | ⟨5, _⟩ => outAt m ρ c
  Φ t := match t with
    | ⟨0, _⟩ => Φ₀ m ρ c
    | ⟨_ + 1, _⟩ => Φ₁ c
  q _ := fullShare
  owed t := match t with
    | ⟨0, _⟩ => OweAll c (sb c)
    | ⟨_ + 1, _⟩ => 0

abbrev stg (c : Dev nD) (b : Ref sig .tc) (f : b.ty.Contents (Elt F)) : sProp 𝕄 := owns (c : Thread nD τ) (Memref.whole b) fullShare f

/-! ## The body's obligation -/

theorem crPos_intro (c : Dev nD) (b : Bool) : atPos (ER (F := F)) (crCell c b) 0 ∅ 0 ⊢ crPos (F := F) c b 0 := by
  unfold crPos
  iintro H
  iexists ∅
  isplitr; · ipureintro; exact ⟨Finset.empty_subset _, Nat.zero_le _⟩
  isplitl [H]; · iexact H
  rw [bigSep_empty]; iempintro

def ciEquiv : (Bool ⊕ CX) ⊕ PUnit.{1} ≃ CI := (Equiv.optionEquivSumPUnit _).symm
theorem ci_split (Φ : CI → sProp 𝕄) : bigSep Finset.univ Φ
    = iprop(((bigSep Finset.univ fun b : Bool => Φ (some (.inl b))) ∗ (bigSep Finset.univ fun x : CX => Φ (some (.inr x)))) ∗ Φ none) := by
  rw [bigSep_univ_equiv ciEquiv Φ]
  have e1 := bigSep_univ_sum (fun x : (Bool ⊕ CX) ⊕ PUnit.{1} => Φ (ciEquiv x))
  have e2 := bigSep_univ_sum (fun x : Bool ⊕ CX => Φ (ciEquiv (.inl x)))
  rw [e1, e2]
  have e3 : (bigSep Finset.univ fun b : PUnit.{1} => Φ (ciEquiv (.inr b))) = Φ none := bigSep_univ_eq_bigSepL [PUnit.unit] (by decide) (by decide) _
  rw [e3]; rfl
theorem bool_split (Φ : Bool → sProp 𝕄) : bigSep Finset.univ Φ = iprop(Φ true ∗ Φ false) := bigSep_univ_eq_bigSepL [true, false] (by decide) (by decide) Φ

theorem lau_one (c : Dev nD) (h : ℕ) :
    iprop(tokS (F := F) c h ∗ lauC (F := F) c h ∗ (if h ≤ 11 then rdS (F := F) c h else iprop(emp)) ∗ (if h < 3 then iprop(emp) else wrS (F := F) c h)) ⊢ lau (F := F) c h := by
  unfold tokS lauC lau tokX tokA tokCr rdS wrS
  iintro ⟨⟨H1, H2, H3, H4, H5⟩, ⟨C1, C2, C3⟩, R, W⟩
  isplitl [C1 W]
  · split
    · iempintro
    · isplitl [W] <;> iassumption
  isplitl [C2]; · iexact C2
  isplitl [H1 H2]
  · split
    · isplitl [H1] <;> iassumption
    · iempintro
  isplitl [C3]; · iexact C3
  isplitl [H3 H4]
  · isplitl [H3] <;> iassumption
  split
  · isplitl [R] <;> iassumption
  · iempintro

theorem lau_intro (c : Dev nD) :
    iprop(bigSep (Finset.Ico 0 15) (tokS (F := F) c) ∗ bigSep (Finset.Ico 0 15) (lauC (F := F) c)
      ∗ bigSep (Finset.Ico 0 15) (fun h => if h ≤ 11 then rdS (F := F) c h else iprop(emp))
      ∗ bigSep (Finset.Ico 0 15) (fun h => if h < 3 then iprop(emp) else wrS (F := F) c h)) ⊢ bigSep (Finset.Ico 0 15) (lau (F := F) c) := by
  have e : bigSep (Finset.Ico 0 15) (fun h => iprop(tokS (F := F) c h ∗ lauC (F := F) c h ∗ (if h ≤ 11 then rdS (F := F) c h else iprop(emp)) ∗ (if h < 3 then iprop(emp) else wrS (F := F) c h)))
      = iprop(bigSep (Finset.Ico 0 15) (tokS (F := F) c) ∗ bigSep (Finset.Ico 0 15) (lauC (F := F) c)
      ∗ bigSep (Finset.Ico 0 15) (fun h => if h ≤ 11 then rdS (F := F) c h else iprop(emp))
      ∗ bigSep (Finset.Ico 0 15) (fun h => if h < 3 then iprop(emp) else wrS (F := F) c h)) := by
    rw [bigSep_sep', bigSep_sep', bigSep_sep']
  rw [← e]
  exact bigSep_mono fun h _ => lau_one c h

theorem bodyIn_intro (c : Dev nD) (K : Dev nD × CI → ℕ) (KS : Key → ℕ) (w : Fin 4 → Vec F S1024x1024 .f32) (xs : Vec F S1x512x1024 .f32) :
    iprop(recsM m ρ K KS ∗ ghost (F := F) c ∗ creds (F := F) c ∗ scr (F := F) c ∗ owesE c (OweAll c (sb c)) ∗ stg c cc0_stg0_0 xs ∗ wts w c
        ∗ (∃ f, stg (F := F) c cc0_stg5_0 f)) ⊢ bodyIn w xs c (sb c) := by
  unfold ghost creds toks tokE scr bodyIn entry
  rw [ci_split, bool_split]
  iintro ⟨#Hrec, ⟨⟨⟨⟨HcT, HcF⟩, Hx⟩, Hb⟩, ⟨⟨T1, T2, T3, T4⟩, Ht⟩, Hrd, Hwr⟩, ⟨Cb, Cl, Ce⟩, ⟨Hs, Hxo⟩, HO, Hst, Hw, Ho⟩
  isplitl [HO]; · iexact HO
  isplitl [T1 T2 T3 T4 Cb Hb]
  · isplitl [T1]; · iexact T1
    isplitl [T2]; · iexact T2
    isplitl [Cb]; · iexact Cb
    isplitl [Hb]; · iexact Hb
    isplitl [T3] <;> iassumption
  isplitl [Hx]
  · unfold pos0
    have hx (x : CX) : iprop(recsM m ρ K KS ∗ atPos (ER (F := F)) (kcell (c, some (.inr x))) 0 ∅ 0) ⊢ at' (F := F) (dcell c x.1 x.2.1 x.2.2) 0 := by
      unfold at'
      iintro ⟨#H, Ha⟩
      isplitl [Ha]; · iexact Ha
      iapply (recs_reached (XX m ρ) (AA m ρ) K KS (c, some (.inr x))); iexact H
    iapply (with_recs (R := recsM m ρ K KS) fun x _ => hx x)
    isplitr; · iexact Hrec
    iexact Hx
  isplitl [Hs]; · iexact Hs
  isplitl [Hxo]; · iexact Hxo
  isplitl [Hst]; · iexact Hst
  isplitl [Hw]; · iexact Hw
  isplitl [Ho]; · iexact Ho
  isplitl [HcT]; · iapply (crPos_intro c true); iexact HcT
  isplitl [HcF]; · iapply (crPos_intro c false); iexact HcF
  isplitr [Ce]
  · iapply (lau_intro c)
    isplitl [Ht]; · iexact Ht
    isplitl [Cl]; · iexact Cl
    isplitl [Hrd] <;> iassumption
  · iexact Ce

def bodyPre (c : Dev nD) : sProp 𝕄 :=
  iprop(Φ₀ m ρ c ∗ (dats m ρ 0 c).owesAt 0 t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ (F := F) c ∗ (dats m ρ 0 c).owesAt 0 t0_0.succ ∗ stg c cc0_stg0_0 (xstg m ρ c) ∗ stg c cc0_stg1_0 (wq m ρ c) ∗ stg c cc0_stg2_0 (wo m ρ c)
    ∗ stg c cc0_stg3_0 (wk m ρ c) ∗ stg c cc0_stg4_0 (wv m ρ c) ∗ stg c cc0_stg5_0 (outAt m ρ c))

theorem bodyOut_post (c : Dev nD) : bodyOut (ww m ρ c) (xstg m ρ c) (AA m ρ c 15) c ⊢ bodyPost m ρ c := by
  unfold bodyOut bodyPost Φ₁ scr wts owesE Dat.owesAt Pipeline.owesWithin
  rw [show (dats m ρ 0 c).owed t0_0.succ = 0 from rfl]
  iintro ⟨⟨%W, HO⟩, Hs, Hxo, Hx, ⟨H0, H1, H2, H3⟩, Hout, Hb, Hcr, Hd⟩
  isplitl [Hs Hxo Hb Hcr Hd]
  · isplitl [Hs Hxo]
    · isplitl [Hs] <;> iassumption
    isplitl [Hb]; · iexact Hb
    isplitl [Hcr] <;> iassumption
  isplitl [HO]
  · iexists W
    isplitr; · ipureintro; exact fun _ _ => Or.inl trivial
    iexact HO
  isplitl [Hx]; · iexact Hx
  isplitl [H0]; · iexact H0
  isplitl [H1]; · iexact H1
  isplitl [H2]; · iexact H2
  isplitl [H3]; · iexact H3
  iexact Hout

theorem before_0 (c : Dev nD) (d) : (dats m ρ 0 c).before (0 : Fin 6) t0_0 d = xstg m ρ c := by unfold Dat.before; rw [if_pos (fetch0_0 t0_0)]; rfl
theorem before_1 (c : Dev nD) (d) : (dats m ρ 0 c).before (1 : Fin 6) t0_0 d = wq m ρ c := by unfold Dat.before; rw [if_pos (fetch0_1 t0_0)]; rfl
theorem before_2 (c : Dev nD) (d) : (dats m ρ 0 c).before (2 : Fin 6) t0_0 d = wo m ρ c := by unfold Dat.before; rw [if_pos (fetch0_2 t0_0)]; rfl
theorem before_3 (c : Dev nD) (d) : (dats m ρ 0 c).before (3 : Fin 6) t0_0 d = wk m ρ c := by unfold Dat.before; rw [if_pos (fetch0_3 t0_0)]; rfl
theorem before_4 (c : Dev nD) (d) : (dats m ρ 0 c).before (4 : Fin 6) t0_0 d = wv m ρ c := by unfold Dat.before; rw [if_pos (fetch0_4 t0_0)]; rfl

theorem bodyPre_in (c : Dev nD) : bodyPre m ρ c ⊢ iprop(∃ K KS, recsM m ρ K KS ∗ bodyIn (ww m ρ c) (xstg m ρ c) c (sb c)) := by
  unfold bodyPre Φ₀ start Dat.owesAt Pipeline.owesWithin
  rw [show (dats m ρ 0 c).owed t0_0.castSucc = OweAll c (sb c) from rfl]
  simp only [before_0, before_1, before_2, before_3, before_4]
  iintro ⟨⟨⟨⟨%K, %KS, #Hrec⟩, Hg, Hc⟩, Hs⟩, ⟨%W, -, HO⟩, ⟨%d0, H0⟩, ⟨%d1, H1⟩, ⟨%d2, H2⟩, ⟨%d3, H3⟩, ⟨%d4, H4⟩, ⟨%d5, H5⟩⟩
  iexists K; iexists KS
  isplitr; · iexact Hrec
  iapply (bodyIn_intro m ρ c K KS)
  unfold owesE wts
  isplitr; · iexact Hrec
  isplitl [Hg]; · iexact Hg
  isplitl [Hc]; · iexact Hc
  isplitl [Hs]; · iexact Hs
  isplitl [HO]; · iexists W; iexact HO
  isplitl [H0]; · iexact H0
  isplitr [H5]
  · isplitl [H1]; · iexact H1
    isplitl [H2]; · iexact H2
    isplitl [H3]; · iexact H3
    iexact H4
  · iexists _; iexact H5

theorem body_any (c : Dev nD) (K : Dev nD × CI → ℕ) (KS : Key → ℕ) {Q : PUnit.{1} → sProp 𝕄} :
    iprop(recsM m ρ K KS ∗ bodyIn (ww m ρ c) (xstg m ρ c) c (sb c))
      ⊢ iprop((bodyOut (ww m ρ c) (xstg m ρ c) (AA m ρ c 15) c -∗ Q ⟨⟩) -∗ wp frame (wpE (defs₀ (F := F)) 𝒱₀ c none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14) Q) := by
  have hp := par_sb c
  cases hb : sb c
  · rw [hb] at hp
    exact body_false (XX m ρ) (AA m ρ) K KS c hp (ww m ρ c) (xstg m ρ c) rfl (fun _ => rfl) (AA_step m ρ c)
  · rw [hb] at hp
    exact body_true (XX m ρ) (AA m ρ) K KS c hp (ww m ρ c) (xstg m ρ c) rfl (fun _ => rfl) (AA_step m ρ c)

theorem prog_eq : (defs₀ (F := F)) Proc.tc cfg0.body (cfg0.bodyArgs t0_0 (cfg0.slots t0_0)) = cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 := rfl

theorem phi_pre (c : Dev nD) : (dats m ρ 0 c).Φ t0_0.castSucc = Φ₀ m ρ c := rfl
theorem phi_post (c : Dev nD) : (dats m ρ 0 c).Φ t0_0.succ = Φ₁ c := rfl

theorem body_obligation (c : Dev nD) : BodyObligation (dats (F := F) m ρ 0 c) (defs₀ (F := F)) 𝒱₀ 0 Set.univ := fun t => by
  rw [show t = t0_0 from fin_N0 t]
  rw [show (bigSep Finset.univ fun w : Fin cfg0.W => _) = _ from bigSep_W0 _, show (bigSep Finset.univ fun w : Fin cfg0.W => _) = _ from bigSep_W0 _]
  rw [prog_eq, phi_pre, phi_post]
  have hin := bodyPre_in m ρ c
  have hout := bodyOut_post m ρ c
  unfold bodyPre at hin
  unfold bodyPost at hout
  refine BIBase.Entails.trans hin ?_
  iintro ⟨%K, %KS, #Hrec, Hin⟩
  iapply (body_any m ρ c K KS) $$ [Hin]
  · isplitr; · iexact Hrec
    iexact Hin
  iintro Ho
  iapply hout; iexact Ho

end Cert.KernelIdeal.Mesh

end
-- ==== Proof.LaunchI.lean ====
/- The launch of the call on every device: what the cells, the tokens and the slots are dealt as, and the program's run. -/
module

public import proofs.«01_k».proof.Proof.DatI
public import Idealize.ShloMosaic.Lib.Pipeline.CollectiveSegs
public import Idealize.ShloMosaic.Lib.Quiescent

@[expose] public section

set_option maxRecDepth 65536

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What the launch deals -/

/-- The semaphores the call makes for itself. -/
def osem : Bool ⊕ CX → SemLoc sig
  | .inl b => .reg (crS b).sem
  | .inr x => .dma (dsem x.1 x.2.1 x.2.2)

theorem osem_facts : Pipeline.OwnSemFacts cfg0.spec osem := by decide +kernel

theorem share_full (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf meshCells meshToks, Release.initSlots keys 1))

def slotInvs : sProp 𝕄 := iprop(∃ KS : Key → ℕ, bigSep keys fun k => Release.slotInv (ES (F := F)) (KS k) k (slotS (F := F) k))
instance slotInvs_persistent : BI.Persistent (slotInvs (F := F)) := by unfold slotInvs; infer_instance

def rdP (c : Dev nD) : sProp 𝕄 := bigSep (Finset.Ico 0 15) (fun h => if h ≤ 11 then rdS (F := F) c h else iprop(emp))
def wrP (c : Dev nD) : sProp 𝕄 := bigSep (Finset.Ico 0 15) (fun h => if h < 3 then iprop(emp) else wrS (F := F) c h)
def posP (c : Dev nD) : sProp 𝕄 := bigSep Finset.univ fun i : CI => atPos (ER (F := F)) (kcell (c, i)) 0 ∅ 0
def reaP (c : Dev nD) : sProp 𝕄 := bigSep Finset.univ fun i : CI => reached (ER (F := F)) (kcell (c, i)) 0
def staP (c : Dev nD) : sProp 𝕄 := bigSep Finset.univ fun i : CI => roundState ER (RdM m ρ) (kcell (c, i)) 0
def invP (c : Dev nD) : sProp 𝕄 := bigSep Finset.univ fun i : CI => iprop(∃ κ : ℕ, cellInv ER (RdM m ρ) κ (kcell (c, i)))

def G (c : Dev nD) : sProp 𝕄 :=
  iprop(staP m ρ c ∗ posP (F := F) c ∗ reaP (F := F) c ∗ toks (F := F) c ∗ slotInvs (F := F) ∗ rdP (F := F) c ∗ wrP (F := F) c)

/-- What every device knows before the levels are fixed. -/
def know (K : Dev nD × CI → ℕ) (KS : Key → ℕ) : sProp 𝕄 :=
  iprop((bigSep Finset.univ fun x : Dev nD × CI => cellInv ER (RdM m ρ) (K x) (kcell x))
    ∗ (bigSep Finset.univ fun x : Dev nD × CI => reached (ER (F := F)) (kcell x) 0)
    ∗ (bigSep keys fun k => Release.slotInv (ES (F := F)) (KS k) k (slotS (F := F) k)))
instance know_persistent (K : Dev nD × CI → ℕ) (KS : Key → ℕ) : BI.Persistent (know m ρ K KS) := by unfold know; infer_instance

def G' (c : Dev nD) : sProp 𝕄 := iprop((∃ K KS, know m ρ K KS) ∗ ghost (F := F) c)

theorem over_cells (Φ : GSem nD τ sig → sProp 𝕄) : bigSep meshCells Φ = bigSep Finset.univ fun c : Dev nD => bigSep Finset.univ fun i : CI => Φ (kcell (c, i)) := by
  unfold meshCells; rw [bigSep_map, bigSep_univ_prod]; rfl

theorem everywhere (R : sProp 𝕄) [BI.Persistent R] : R ⊢ bigSep Finset.univ fun _ : Dev nD => R := BI.bigSep_of_persistent Finset.univ R

theorem fund_rounds : BI.own ((ER (F := F)) (initOf meshCells meshToks))
    ⊢ (|==> ((bigSep Finset.univ fun c : Dev nD => staP m ρ c) ∗ (bigSep Finset.univ fun c : Dev nD => posP (F := F) c)
      ∗ (bigSep Finset.univ fun c : Dev nD => reaP (F := F) c) ∗ bigSep Finset.univ fun c : Dev nD => toks (F := F) c) : sProp 𝕄) := by
  iintro HX
  imod (Rounds.fund ER (RdM m ρ) meshCells meshToks) $$ HX with ⟨Hst, Hr, Hat, Htok⟩
  imodintro
  ihave Hst' := (Entails.of_eq (over_cells fun g => roundState ER (RdM m ρ) g 0)) $$ Hst
  ihave Hat' := (Entails.of_eq (over_cells fun g => atPos (ER (F := F)) g 0 ∅ 0)) $$ Hat
  ihave Hr' := (Entails.of_eq (over_cells fun g => reached (ER (F := F)) g 0)) $$ Hr
  ihave Htok' := (Entails.of_eq (meshToks_eq (F := F))) $$ Htok
  unfold staP posP reaP
  isplitl [Hst']; · iexact Hst'
  isplitl [Hat']; · iexact Hat'
  isplitl [Hr']; · iexact Hr'
  iexact Htok'

theorem fund_slots : BI.own ((ES (F := F)) (Release.initSlots keys 1))
    ⊢ (|={Set.univ}=> ((bigSep Finset.univ fun _ : Dev nD => slotInvs (F := F)) ∗ (bigSep Finset.univ fun c : Dev nD => rdP (F := F) c)
      ∗ bigSep Finset.univ fun c : Dev nD => wrP (F := F) c) : sProp 𝕄) := by
  iintro HS
  imod (Release.slots_init (Es := Set.univ) (ES (F := F)) keys 1 (fun k => slotS (F := F) k) ∅) $$ HS with ⟨%KS, -, Hi, Hr, Hw⟩
  imodintro
  ihave Hr' := (rd_deal (F := F)) $$ Hr
  ihave Hw' := (wr_deal (F := F)) $$ Hw
  unfold rdP wrP
  isplitl [Hi]
  · iapply (everywhere (F := F) (slotInvs (F := F)))
    unfold slotInvs
    iexists KS; iexact Hi
  isplitl [Hr'] <;> iassumption

theorem G_split : (bigSep Finset.univ (G m ρ) : sProp 𝕄)
    = iprop((bigSep Finset.univ fun c : Dev nD => staP m ρ c) ∗ (bigSep Finset.univ fun c : Dev nD => posP (F := F) c)
      ∗ (bigSep Finset.univ fun c : Dev nD => reaP (F := F) c) ∗ (bigSep Finset.univ fun c : Dev nD => toks (F := F) c)
      ∗ (bigSep Finset.univ fun _ : Dev nD => slotInvs (F := F)) ∗ (bigSep Finset.univ fun c : Dev nD => rdP (F := F) c)
      ∗ bigSep Finset.univ fun c : Dev nD => wrP (F := F) c) := by
  have e : G m ρ = fun c => iprop(staP m ρ c ∗ posP (F := F) c ∗ reaP (F := F) c ∗ toks (F := F) c ∗ slotInvs (F := F) ∗ rdP (F := F) c ∗ wrP (F := F) c) := rfl
  rw [e, bigSep_sep', bigSep_sep', bigSep_sep', bigSep_sep', bigSep_sep', bigSep_sep']

theorem fund_all : ownU u₀ ⊢ (|={Set.univ}=> (BI.own (EP (F := F) (initOf (Pipeline.cells cfgs cellOf_inj) (Pipeline.launchToks cfgs cellOf_inj))) ∗ bigSep Finset.univ (G m ρ)) : sProp 𝕄) := by
  unfold u₀
  iintro Hu
  ihave H := (ownU_pair _ _) $$ Hu
  icases H with ⟨HP, HR⟩
  ihave H2 := (own_pair_emb (embR : Emb (UB × US) 𝕄) (initOf meshCells meshToks) (Release.initSlots keys 1)) $$ HR
  icases H2 with ⟨HB, HS⟩
  imod (fund_rounds m ρ) $$ HB with ⟨H1, H2, H3, H4⟩
  imod (fund_slots (F := F)) $$ HS with ⟨H5, H6, H7⟩
  imodintro
  isplitl [HP]; · iexact HP
  rw [G_split]
  isplitl [H1]; · iexact H1
  isplitl [H2]; · iexact H2
  isplitl [H3]; · iexact H3
  isplitl [H4]; · iexact H4
  isplitl [H5]; · iexact H5
  isplitl [H6] <;> iassumption

theorem own_sems (c : Dev nD) : (Pipeline.ownSems0 (Ix := ℕ) (Name := ℕ) (U := UU) (Lvl := ℕ) (Val := Elt F) (τ := τ) osem c : sProp 𝕄)
    = iprop((semVal (crCell c true) 0 ∗ semVal (crCell c false) 0) ∗ bigSep Finset.univ fun x : CX => semVal (dcell c x.1 x.2.1 x.2.2) 0) := by
  unfold Pipeline.ownSems0
  have e := bigSep_univ_sum (fun i : Bool ⊕ CX => (semVal ((c : Thread nD τ), osem i) 0 : sProp 𝕄))
  rw [e, bool_split]; rfl

theorem free_sems (c : Dev nD) : (unscopedSems0 c : sProp 𝕄) = semVal (barCell c) 0 := by
  unfold unscopedSems0; rw [bigSep_eq_bigSepL_of_eq [SemLoc.reg barS] (by decide +kernel) (by decide)]; rfl

theorem all_sems (c : Dev nD) :
    iprop(Pipeline.ownSems0 (Ix := ℕ) (Name := ℕ) (U := UU) (Lvl := ℕ) (Val := Elt F) (τ := τ) osem c ∗ unscopedSems0 c)
      ⊢ (bigSep Finset.univ fun i : CI => semVal (kcell (c, i)) 0 : sProp 𝕄) := by
  rw [own_sems, free_sems, ci_split, bool_split]

theorem open_cells (c : Dev nD) : iprop((bigSep Finset.univ fun i : CI => semVal (kcell (c, i)) 0) ∗ staP m ρ c) ⊢ (|={Set.univ}=> invP m ρ c : sProp 𝕄) := by
  unfold staP invP
  rw [← bigSep_sep']
  exact (bigSep_mono fun i _ => (Rounds.body_intro ER (RdM m ρ) (kcell (c, i))).trans inv_alloc).trans (bigSep_fupd _ _)

theorem core_open (c : Dev nD) :
    iprop(Pipeline.ownSems0 (Ix := ℕ) (Name := ℕ) (U := UU) (Lvl := ℕ) (Val := Elt F) (τ := τ) osem c ∗ unscopedSems0 c ∗ G m ρ c)
      ⊢ (|={Set.univ}=> (invP m ρ c ∗ reaP (F := F) c ∗ slotInvs (F := F) ∗ (posP (F := F) c ∗ toks (F := F) c ∗ rdP (F := F) c ∗ wrP (F := F) c)) : sProp 𝕄) := by
  unfold G
  iintro ⟨Hos, Hus, Hst, Hat, Hre, Htok, #Hsl, Hrd, Hwr⟩
  ihave Hv := (all_sems (F := F) c) $$ [Hos Hus]
  · isplitl [Hos] <;> iassumption
  imod (open_cells m ρ c) $$ [Hv Hst] with Hinv
  · isplitl [Hv] <;> iassumption
  imodintro
  isplitl [Hinv]; · iexact Hinv
  isplitl [Hre]; · iexact Hre
  isplitr; · iexact Hsl
  isplitl [Hat]; · iexact Hat
  isplitl [Htok]; · iexact Htok
  isplitl [Hrd] <;> iassumption

theorem keep_one (K : Dev nD × CI → ℕ) (KS : Key → ℕ) (c : Dev nD) :
    iprop(know m ρ K KS ∗ (posP (F := F) c ∗ toks (F := F) c ∗ rdP (F := F) c ∗ wrP (F := F) c)) ⊢ G' m ρ c := by
  unfold G' ghost posP rdP wrP
  iintro ⟨#HK, H⟩
  isplitr
  · iexists K; iexists KS; iexact HK
  iexact H

theorem names (m' : Unit) : (bigSep Finset.univ fun c : Dev nD => invP m ρ c : sProp 𝕄)
    ⊢ ∃ K : Dev nD × CI → ℕ, bigSep Finset.univ fun x : Dev nD × CI => cellInv ER (RdM m ρ) (K x) (kcell x) := by
  unfold invP
  rw [← bigSep_univ_prod (fun x : Dev nD × CI => iprop(∃ κ : ℕ, cellInv ER (RdM m ρ) κ (kcell x)))]
  exact BI.bigSep_exists_pi Finset.univ (fun (x : Dev nD × CI) (κ : ℕ) => (cellInv ER (RdM m ρ) κ (kcell x) : sProp 𝕄))

theorem reach_all : (bigSep Finset.univ fun c : Dev nD => reaP (F := F) c : sProp 𝕄)
    ⊢ bigSep Finset.univ fun x : Dev nD × CI => reached (ER (F := F)) (kcell x) 0 := by
  unfold reaP
  rw [← bigSep_univ_prod (fun x : Dev nD × CI => (reached (ER (F := F)) (kcell x) 0 : sProp 𝕄))]

theorem slots_all : (bigSep Finset.univ fun _ : Dev nD => slotInvs (F := F) : sProp 𝕄) ⊢ slotInvs (F := F) :=
  big_elim (Φ := fun _ : Dev nD => slotInvs (F := F)) (Finset.mem_univ (0 : Dev nD))

theorem share_out :
    (bigSep Finset.univ fun c : Dev nD => iprop(invP m ρ c ∗ reaP (F := F) c ∗ slotInvs (F := F) ∗ (posP (F := F) c ∗ toks (F := F) c ∗ rdP (F := F) c ∗ wrP (F := F) c)) : sProp 𝕄)
      ⊢ bigSep Finset.univ (G' m ρ) := by
  rw [bigSep_sep', bigSep_sep', bigSep_sep']
  iintro ⟨HI, HR, HS, H⟩
  ihave HK := (names m ρ ()) $$ HI
  icases HK with ⟨%K, #HI⟩
  ihave #HR' := (reach_all (F := F)) $$ HR
  ihave HS' := (slots_all (F := F)) $$ HS
  unfold slotInvs
  icases HS' with ⟨%KS, #HS''⟩
  iapply (with_recs (R := know m ρ K KS) fun c _ => keep_one m ρ K KS c)
  isplitr
  · unfold know
    isplitr; · iexact HI
    isplitr; · iexact HR'
    iexact HS''
  iexact H

theorem deal_all : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_open m ρ c).trans (bigSep_fupd _ _)).trans (BI.fupd_mono (share_out m ρ))

/-! ## The launch's conditions -/

theorem begin (c : Dev nD) :
    iprop(Pipeline.unscopedRestP Pipeline.Prefetch.none cfg0.spec c (fun b => m ((c : Thread nD τ).loc b)) ∗ levAts L lv
        ∗ Pipeline.launchCred (fun d => OweAll d (sb d)) c ∗ prngReg c (ρ c) ∗ G' m ρ c)
      ⊢ (|={Set.univ}=> (start m ρ c ∗ emp) : sProp 𝕄) := by
  unfold G' start
  iintro ⟨-, #Hlev, Hcr, -, ⟨%K, %KS, #HK⟩, HG⟩
  ihave Hc := (creds_intro (F := F) c) $$ Hcr
  imodintro
  isplitl
  · isplitr
    · iexists K; iexists KS
      unfold recsM recs know
      icases HK with ⟨#H1, #H2, #H3⟩
      isplitr; · iexact H1
      isplitr; · iexact H2
      isplitr; · iexact H3
      iexact Hlev
    isplitl [HG] <;> iassumption
  · iempintro

theorem slot_whole (c : Dev nD) (b : Ref sig .tc) :
    (Release.slot ((Memref.whole b).view.loc (c : Thread nD τ)) (Memref.whole b).view.set : sProp 𝕄)
      = iprop(∃ f : Buf (Elt F) ((c : Thread nD τ).loc b), ((c : Thread nD τ).loc b) ↦{fullShare} f) := by
  unfold Release.slot
  rw [Memref.view_whole, View.set_whole]

theorem owns_whole_any (c : Dev nD) :
    (iprop(∃ f, owns (c : Thread nD τ) xoM fullShare f) : sProp 𝕄)
      = iprop(∃ f : Buf (Elt F) ((c : Thread nD τ).loc cc0_scratch4), ((c : Thread nD τ).loc cc0_scratch4) ↦{fullShare} f) := by
  have h1 : (iprop(∃ f, owns (c : Thread nD τ) xoM fullShare f) : sProp 𝕄)
      ⊢ iprop(∃ f : Buf (Elt F) ((c : Thread nD τ).loc cc0_scratch4), ((c : Thread nD τ).loc cc0_scratch4) ↦{fullShare} f) := by
    unfold owns
    simp only [Memref.view_whole, View.read_whole, View.set_whole]
    iintro ⟨%f, %g, -, H⟩
    iexists g; iexact H
  have h2 : iprop(∃ f : Buf (Elt F) ((c : Thread nD τ).loc cc0_scratch4), ((c : Thread nD τ).loc cc0_scratch4) ↦{fullShare} f)
      ⊢ (iprop(∃ f, owns (c : Thread nD τ) xoM fullShare f) : sProp 𝕄) := by
    unfold owns
    simp only [Memref.view_whole, View.read_whole, View.set_whole]
    iintro ⟨%f, H⟩
    iexists f; iexists f
    isplitr; · ipureintro; rfl
    iexact H
  exact BI.Entails.antisymm h1 h2

theorem scr_eq (c : Dev nD) : (Pipeline.scopedRest cfg0.spec c : sProp 𝕄)
    = iprop(allS (F := F) c (xM true) ∗ allS (F := F) c (aM true) ∗ allS (F := F) c (xM false) ∗ allS (F := F) c (aM false) ∗ ∃ f, owns (c : Thread nD τ) xoM fullShare f) := by
  rw [show cfg0.spec = spec0 from rfl, scopedRest0_eq, owns_whole_any]
  unfold allS
  rw [slot_whole c cc0_scratch0, slot_whole c cc0_scratch1, slot_whole c cc0_scratch2, slot_whole c cc0_scratch3]

theorem scr_in (c : Dev nD) : (Pipeline.scopedRest cfg0.spec c : sProp 𝕄) ⊢ scr (F := F) c := by
  rw [scr_eq]
  unfold scr
  iintro ⟨H0, H1, H2, H3, H4⟩
  isplitr [H4]
  · isplitl [H0]; · iexact H0
    isplitl [H1]; · iexact H1
    isplitl [H2]; · iexact H2
    iexact H3
  iexact H4

theorem scr_out (c : Dev nD) : scr (F := F) c ⊢ (Pipeline.scopedRest cfg0.spec c : sProp 𝕄) := by
  rw [scr_eq]
  unfold scr
  iintro ⟨⟨H0, H1, H2, H3⟩, H4⟩
  isplitl [H0]; · iexact H0
  isplitl [H1]; · iexact H1
  isplitl [H2]; · iexact H2
  isplitl [H3]; · iexact H3
  iexact H4

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_in (F := F) c); iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, own_sems, free_sems]
  unfold Φ₁
  iintro ⟨Hr, HB, HC, HD⟩
  isplitl [HB]; · iexact HB
  isplitl [HC HD]
  · isplitl [HC] <;> iassumption
  iapply (scr_out (F := F) c); iexact Hr

theorem above_all (c : Dev nD) (b : Bool) : Above 0 (OweAll c b) := by
  unfold OweAll
  exact ((((above_Owe c 0).mono (by omega)).add (Above.tallyAt _ _ _ _ (by omega) (by omega))).add (Above.tallyAt _ _ _ _ (by omega) (by omega))).add
    (Above.tallyAt _ _ _ _ (by omega) (by omega))

theorem waits_ok (c : Dev nD) : (levAts L lv : sProp 𝕄) ⊢ Pipeline.cellsWaits cfgs (dats m ρ) 0 0 c :=
  Pipeline.cellsWaits_intro cfgs (dats m ρ) 0 0 c fun w s t =>
    mayWait c _ 0 (by omega) _ (by
      rcases t with ⟨_ | _, ht⟩
      · exact above_all c (sb c)
      · exact Above.zero 0)

theorem L_off (g : GSem nD τ sig) (h : g.1.2 ≠ .tc) : L g = ∅ := if_neg h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxHeartbeats 4000000 in
/-- The whole program on the sixteen devices: it always ends, with each device's arrays at `finalA` and every counter back at zero. -/
theorem run_mesh : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => OweAll d (sb d)) (howed₀ := fun _ => rfl) (howedN := fun _ => rfl)
    (L := L) (lv := lv) (hL := L_off) (hwaits := waits_ok m ρ)
    (G := G m ρ) (G' := G' m ρ) (u₀ := u₀)
    (hu₀ := fund_all m ρ)
    (hglob := deal_all m ρ)
    (hA := fun _ _ => rfl) (hpf := fun _ k => k.elim0)
    (X := start m ρ) (Y := fun c => unscopedSems0 c) (Z := fun _ => iprop(emp))
    (hX := begin m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds after the run what it held. -/
theorem final_in (c : Dev nD) (w : Fin cfg0.W) (h : w.val < 5) : finalA m ρ c w = (s₀ m ρ).mem ((cfg0.win w).arr.view.loc (c : Thread nD τ)) := by
  refine (dats (F := F) m ρ 0 c).arrAt_in w ?_ _
  revert w; decide

end Cert.KernelIdeal.Mesh

end
-- ==== Proof.HeadV.lean ====
/- Attention of one head over the extended reals, and the sum over all heads through the output projection. -/
module

public import Idealize.ShloMosaic.Lib.Pointwise

@[expose] public section

noncomputable section

namespace Cert.Attn

open Idealize.ShloMosaic
open scoped BigOperators

/-- The scaled score of query row `i` against key row `j`. -/
def score (Q K : Fin 512 → Fin 128 → EReal) (i j : Fin 512) : EReal := (∑ d, Q i d * K j d) * Ideal.ofBits .f32 0x3DB504F3#32
/-- The weight of key row `j` for query row `i`, before normalising. -/
def weight (Q K : Fin 512 → Fin 128 → EReal) (i j : Fin 512) : EReal :=
  Ideal.exp (score Q K i j - Finset.fold max (Ideal.ofBits .f32 0xFF800000#32) (fun j => score Q K i j) Finset.univ)
/-- One head's output. -/
def head (Q K V : Fin 512 → Fin 128 → EReal) (i : Fin 512) (d : Fin 128) : EReal :=
  Ideal.div (∑ j, weight Q K i j * V j d) (∑ j, weight Q K i j)

/-- Column `n` of the activations' product with a weight. -/
def proj {N : ℕ} (X : Fin 512 → Fin 1024 → EReal) (W : Fin 1024 → Fin N → EReal) (i : Fin 512) (n : Fin N) : EReal := ∑ k, X i k * W k n

/-- The column `128 * (k / 128) + d`: coordinate `d` of the head that column `k` belongs to. -/
def col {N : ℕ} (hN : N % 128 = 0) (k : Fin N) (d : Fin 128) : Fin N := ⟨k.val / 128 * 128 + d.val, by have := k.isLt; have := d.isLt; omega⟩

/-- The attention of the head that column `k` belongs to, at that column. -/
def attn {N : ℕ} (hN : N % 128 = 0) (q k v : Fin 512 → Fin N → EReal) (i : Fin 512) (n : Fin N) : EReal :=
  head (fun i d => q i (col hN n d)) (fun i d => k i (col hN n d)) (fun i d => v i (col hN n d)) i ⟨n.val % 128, Nat.mod_lt _ (by decide)⟩

/-- All the heads of the given weights, through the output projection. -/
def share {N : ℕ} (hN : N % 128 = 0) (X : Fin 512 → Fin 1024 → EReal) (wq wk wv : Fin 1024 → Fin N → EReal) (wo : Fin N → Fin 1024 → EReal)
    (i : Fin 512) (n : Fin 1024) : EReal :=
  ∑ k, attn hN (proj X wq) (proj X wk) (proj X wv) i k * wo k n

/-- Row or column `k` of device `c`, among all of them. -/
def glob (c : Fin 16) (k : Fin 1024) : Fin 16384 := ⟨c.val * 1024 + k.val, by have := c.isLt; have := k.isLt; omega⟩

theorem attn_glob (Q K V : Fin 512 → Fin 16384 → EReal) (q k v : Fin 512 → Fin 1024 → EReal) (c : Fin 16)
    (hq : ∀ i n, Q i (glob c n) = q i n) (hk : ∀ i n, K i (glob c n) = k i n) (hv : ∀ i n, V i (glob c n) = v i n) (i : Fin 512) (n : Fin 1024) :
    attn (N := 16384) (by decide) Q K V i (glob c n) = attn (N := 1024) (by decide) q k v i n := by
  have hc : ∀ d, col (N := 16384) (by decide) (glob c n) d = glob c (col (N := 1024) (by decide) n d) := fun d => Fin.ext (by
    show (c.val * 1024 + n.val) / 128 * 128 + d.val = c.val * 1024 + (n.val / 128 * 128 + d.val)
    omega)
  have hm : (⟨(glob c n).val % 128, Nat.mod_lt _ (by decide)⟩ : Fin 128) = ⟨n.val % 128, Nat.mod_lt _ (by decide)⟩ := Fin.ext (by
    show (c.val * 1024 + n.val) % 128 = n.val % 128
    omega)
  unfold attn
  rw [hm]
  simp only [hc, hq, hk, hv]

/-- The sum over all the rows is the sum, over the devices, of the sum over a device's rows. -/
theorem sum_glob (f : Fin 16384 → EReal) : ∑ k, f k = ∑ c : Fin 16, ∑ k : Fin 1024, f (glob c k) := by
  rw [← Fintype.sum_prod_type' (fun (c : Fin 16) (k : Fin 1024) => f (glob c k))]
  refine (Fintype.sum_equiv (finProdFinEquiv (m := 16) (n := 1024)) _ _ fun x => ?_).symm
  refine congrArg f (Fin.ext ?_)
  show x.1.val * 1024 + x.2.val = x.2.val + 1024 * x.1.val
  omega

/-- The whole result is the sum of the devices' shares, a device holding columns of the projections and rows of the output weight. -/
theorem share_sum (X : Fin 512 → Fin 1024 → EReal) (WQ WK WV : Fin 1024 → Fin 16384 → EReal) (WO : Fin 16384 → Fin 1024 → EReal)
    (wq wk wv wo : Fin 16 → Fin 1024 → Fin 1024 → EReal) (hq : ∀ c k n, WQ k (glob c n) = wq c k n) (hk : ∀ c k n, WK k (glob c n) = wk c k n)
    (hv : ∀ c k n, WV k (glob c n) = wv c k n) (ho : ∀ c k n, WO (glob c k) n = wo c k n) (i : Fin 512) (n : Fin 1024) :
    share (N := 16384) (by decide) X WQ WK WV WO i n = ∑ c : Fin 16, share (N := 1024) (by decide) X (wq c) (wk c) (wv c) (wo c) i n := by
  unfold share
  rw [sum_glob]
  refine Finset.sum_congr rfl fun c _ => Finset.sum_congr rfl fun k _ => ?_
  rw [ho, attn_glob _ _ _ (proj X (wq c)) (proj X (wk c)) (proj X (wv c)) c (fun i n => by simp only [proj, hq]) (fun i n => by simp only [proj, hk])
    (fun i n => by simp only [proj, hv])]

end Cert.Attn
-- ==== Proof.HeadI.lean ====
/- One head, and one device's heads, as plain terms: what a step of the rings and the last step both compute. -/
module

public import proofs.«01_k».proof.Proof.DatI
public import proofs.«01_k».proof.Proof.HeadV

@[expose] public section

set_option maxRecDepth 65536

noncomputable section

namespace Cert.KernelIdeal.Mesh

open Cert.KernelIdeal Cert.KernelIdeal.Gen
open Idealize.ShloMosaic
open Idealize.ShloMosaic.TcCoe

section Any
variable {F : FTy → Type} [FloatOps F]

/-- The scaled scores of one head. -/
def scoreV (q k : FVec F S512x128 .f32) : FVec F S512x512 .f32 :=
  mulf (matmul dot_S512x128_S512x128_S512x512_1_1_0_0_n_n none q k (constant S512x512 .f32 0x00000000#32)) (broadcast S512x512 (Scalar.ofBits .f32 0x3DB504F3#32))
/-- The weights of one head, before they are normalised. -/
def weightV (s : FVec F S512x512 .f32) : FVec F S512x512 .f32 :=
  exp (subf s (broadcastTo S512x512 (shapeCast S512x1 (multiReduction .maximumf [1] S512 s 0xFF800000#32 reduces_S512x512_S512 (.inl rfl) rfl) shapeCasts_S512_S512x1) broadcasts_S512x1_S512x512))
/-- The weighted mean of the values. -/
def meanV (p : FVec F S512x512 .f32) (v : FVec F S512x128 .f32) : FVec F S512x128 .f32 :=
  divf (matmul dot_S512x512_S512x128_S512x128_1_0_0_1_n_n none p v (constant S512x128 .f32 0x00000000#32))
    (broadcastTo S512x128 (shapeCast S512x1 (multiReduction .add [1] S512 p 0x00000000#32 reduces_S512x512_S512 (.inl rfl) rfl) shapeCasts_S512_S512x1) broadcasts_S512x1_S512x128)
/-- One head. -/
def headV (q k v : FVec F S512x128 .f32) : FVec F S512x128 .f32 := meanV (weightV (scoreV q k)) v

/-- A projection of the activations. -/
def projV (x : FVec F S512x1024 .f32) (w : Vec F S1024x1024 .f32) : FVec F S512x1024 .f32 :=
  matmul dot_S512x1024_S1024x1024_S512x1024_1_0_0_1_n_n none x (shapeCast S1024x1024 w shapeCasts_S1024x1024_S1024x1024) (constant S512x1024 .f32 0x00000000#32)

/-- The eight heads of one device, side by side. -/
def headsV (q k v : FVec F S512x1024 .f32) : FVec F S512x1024 .f32 :=
  concatenate S512x1024 1 [
    ⟨S512x128, headV (extractStridedSlice S512x128 ![0, 0] q slices_S512x1024_o0_0_S512x128) (extractStridedSlice S512x128 ![0, 0] k slices_S512x1024_o0_0_S512x128) (extractStridedSlice S512x128 ![0, 0] v slices_S512x1024_o0_0_S512x128)⟩,
    ⟨S512x128, headV (extractStridedSlice S512x128 ![0, 128] q slices_S512x1024_o0_128_S512x128) (extractStridedSlice S512x128 ![0, 128] k slices_S512x1024_o0_128_S512x128) (extractStridedSlice S512x128 ![0, 128] v slices_S512x1024_o0_128_S512x128)⟩,
    ⟨S512x128, headV (extractStridedSlice S512x128 ![0, 256] q slices_S512x1024_o0_256_S512x128) (extractStridedSlice S512x128 ![0, 256] k slices_S512x1024_o0_256_S512x128) (extractStridedSlice S512x128 ![0, 256] v slices_S512x1024_o0_256_S512x128)⟩,
    ⟨S512x128, headV (extractStridedSlice S512x128 ![0, 384] q slices_S512x1024_o0_384_S512x128) (extractStridedSlice S512x128 ![0, 384] k slices_S512x1024_o0_384_S512x128) (extractStridedSlice S512x128 ![0, 384] v slices_S512x1024_o0_384_S512x128)⟩,
    ⟨S512x128, headV (extractStridedSlice S512x128 ![0, 512] q slices_S512x1024_o0_512_S512x128) (extractStridedSlice S512x128 ![0, 512] k slices_S512x1024_o0_512_S512x128) (extractStridedSlice S512x128 ![0, 512] v slices_S512x1024_o0_512_S512x128)⟩,
    ⟨S512x128, headV (extractStridedSlice S512x128 ![0, 640] q slices_S512x1024_o0_640_S512x128) (extractStridedSlice S512x128 ![0, 640] k slices_S512x1024_o0_640_S512x128) (extractStridedSlice S512x128 ![0, 640] v slices_S512x1024_o0_640_S512x128)⟩,
    ⟨S512x128, headV (extractStridedSlice S512x128 ![0, 768] q slices_S512x1024_o0_768_S512x128) (extractStridedSlice S512x128 ![0, 768] k slices_S512x1024_o0_768_S512x128) (extractStridedSlice S512x128 ![0, 768] v slices_S512x1024_o0_768_S512x128)⟩,
    ⟨S512x128, headV (extractStridedSlice S512x128 ![0, 896] q slices_S512x1024_o0_896_S512x128) (extractStridedSlice S512x128 ![0, 896] k slices_S512x1024_o0_896_S512x128) (extractStridedSlice S512x128 ![0, 896] v slices_S512x1024_o0_896_S512x128)⟩]
    concatenates_S512x128_S512x128_S512x128_S512x128_S512x128_S512x128_S512x128_S512x128_S512x1024_d1

/-- One device's share of the result, of the activations `x`. -/
def shareV (w : Fin 4 → Vec F S1024x1024 .f32) (x : FVec F S512x1024 .f32) : FVec F S512x1024 .f32 :=
  projV (headsV (projV x (w 0)) (projV x (w 2)) (projV x (w 3))) (w 1)

theorem attn_eq (w : Fin 4 → Vec F S1024x1024 .f32) (x : Vec F S512x1024 .bf16) :
    attn w x = headsV (projV (k0_pay4 (up x)) (w 0)) (projV (k0_pay4 (up x)) (w 2)) (projV (k0_pay4 (up x)) (w 3)) := rfl

theorem stepVal_eq (w : Fin 4 → Vec F S1024x1024 .f32) (x a : Vec F S512x1024 .bf16) :
    stepVal w x a = down (shapeCast S1x512x1024 (truncf .bf16 (addf (extf .f32 (shapeCast S512x1024 (up a) shapeCasts_S1x512x1024_S512x1024) bitsLt_bf16_f32)
      (shareV w (k0_pay4 (up x)))) bitsLt_bf16_f32) shapeCasts_S512x1024_S1x512x1024) := by
  unfold stepVal; rw [attn_eq]; rfl

theorem outV_eq (w : Fin 4 → Vec F S1024x1024 .f32) (xs : Vec F S1x512x1024 .f32) (a : Vec F S512x1024 .bf16) :
    outV w xs a = shapeCast S1x512x1024 (addf (extf .f32 (shapeCast S512x1024 (up a) shapeCasts_S1x512x1024_S512x1024) bitsLt_bf16_f32)
      (shareV w (k0_pay39 xs))) shapeCasts_S512x1024_S1x512x1024 := rfl

end Any

theorem head_at (q k v : FVec Ideal S512x128 .f32) (i : Fin 512) (d : Fin 128) :
    headV q k v (ix2 i d) = Attn.head (fun i d => q (ix2 i d)) (fun i d => k (ix2 i d)) (fun i d => v (ix2 i d)) i d := by
  pointwise [headV, meanV, weightV, scoreV]
  rfl
theorem proj_at (x : FVec Ideal S512x1024 .f32) (w : Vec Ideal S1024x1024 .f32) (i : Fin 512) (n : Fin 1024) :
    projV x w (ix2 i n) = Attn.proj (fun i k => x (ix2 i k)) (fun k n => w (ix2 k n)) i n := by
  pointwise [projV]
  rfl

theorem slice_at (off : ℕ) (x : FVec Ideal S512x1024 .f32) (h : S512x1024.Slices ![0, off] S512x128) (i : Fin 512) (d : Fin 128) (e : Fin 1024)
    (he : e.val = off + d.val) : extractStridedSlice S512x128 ![0, off] x h (ix2 i d) = x (ix2 i e) := by
  refine congrArg x (funext fun a => ?_)
  match a with
  | ⟨0, _⟩ => exact Fin.ext (Nat.zero_add _)
  | ⟨1, _⟩ => exact Fin.ext he.symm

/-- The head that column `n` belongs to, cut out of the projections at `off`. -/
theorem piece_at (off : ℕ) (h : S512x1024.Slices ![0, off] S512x128) (q k v : FVec Ideal S512x1024 .f32) (i : Fin 512) (n : Fin 1024) (d : Fin 128)
    (ho : off = n.val / 128 * 128) (hd : d.val = n.val % 128) :
    headV (extractStridedSlice S512x128 ![0, off] q h) (extractStridedSlice S512x128 ![0, off] k h) (extractStridedSlice S512x128 ![0, off] v h) (ix2 i d)
      = Attn.attn (N := 1024) (by decide) (fun i n => q (ix2 i n)) (fun i n => k (ix2 i n)) (fun i n => v (ix2 i n)) i n := by
  obtain rfl : d = ⟨n.val % 128, Nat.mod_lt _ (by decide)⟩ := Fin.ext hd
  rw [head_at]
  have e : ∀ (x : FVec Ideal S512x1024 .f32) (i : Fin 512) (d : Fin 128),
      extractStridedSlice S512x128 ![0, off] x h (ix2 i d) = x (ix2 i (Attn.col (N := 1024) (by decide) n d)) := fun x i d =>
    slice_at off x h i d _ (by rw [ho]; rfl)
  simp only [e]
  rfl

theorem heads_at (q k v : FVec Ideal S512x1024 .f32) (i : Fin 512) (n : Fin 1024) :
    headsV q k v (ix2 i n) = Attn.attn (N := 1024) (by decide) (fun i n => q (ix2 i n)) (fun i n => k (ix2 i n)) (fun i n => v (ix2 i n)) i n := by
  have hn := n.isLt
  pointwise [headsV]
  split
  · exact piece_at _ _ q k v i n _ (by omega) (by show n.val = _; omega)
  split
  · exact piece_at _ _ q k v i n _ (by omega) (by show n.val - 128 = _; omega)
  split
  · exact piece_at _ _ q k v i n _ (by omega) (by show n.val - 128 - 128 = _; omega)
  split
  · exact piece_at _ _ q k v i n _ (by omega) (by show n.val - 128 - 128 - 128 = _; omega)
  split
  · exact piece_at _ _ q k v i n _ (by omega) (by show n.val - 128 - 128 - 128 - 128 = _; omega)
  split
  · exact piece_at _ _ q k v i n _ (by omega) (by show n.val - 128 - 128 - 128 - 128 - 128 = _; omega)
  split
  · exact piece_at _ _ q k v i n _ (by omega) (by show n.val - 128 - 128 - 128 - 128 - 128 - 128 = _; omega)
  · exact piece_at _ _ q k v i n _ (by omega) (by show n.val - 128 - 128 - 128 - 128 - 128 - 128 - 128 = _; omega)

/-- One device's share at an index. -/
theorem share_at (w : Fin 4 → Vec Ideal S1024x1024 .f32) (x : FVec Ideal S512x1024 .f32) (i : Fin 512) (n : Fin 1024) :
    shareV w x (ix2 i n) = Attn.share (N := 1024) (by decide) (fun i k => x (ix2 i k)) (fun k n => w 0 (ix2 k n)) (fun k n => w 2 (ix2 k n))
      (fun k n => w 3 (ix2 k n)) (fun k n => w 1 (ix2 k n)) i n := by
  unfold shareV
  rw [proj_at]
  unfold Attn.share
  refine Finset.sum_congr rfl fun k _ => ?_
  simp only [heads_at, proj_at]

theorem step_at (w : Fin 4 → Vec Ideal S1024x1024 .f32) (x a : Vec Ideal S512x1024 .bf16) (i : Fin 512) (n : Fin 1024) :
    stepVal w x a (ix2 i n) = a (ix2 i n) + shareV w (k0_pay4 (up x)) (ix2 i n) := by
  rw [stepVal_eq]
  pointwise
theorem out_at (w : Fin 4 → Vec Ideal S1024x1024 .f32) (xs : Vec Ideal S1x512x1024 .f32) (a : Vec Ideal S512x1024 .bf16) (i : Fin 512) (n : Fin 1024) :
    outV w xs a (ix3 0 i n) = a (ix2 i n) + shareV w (k0_pay39 xs) (ix2 i n) := by
  rw [outV_eq]
  pointwise
theorem act_at (xs : Vec Ideal S1x512x1024 .f32) (i : Fin 512) (n : Fin 1024) : k0_pay39 xs (ix2 i n) = xs (ix3 0 i n) := by
  pointwise [k0_pay39]
theorem act'_at (xs : Vec Ideal S1x512x1024 .f32) (i : Fin 512) (n : Fin 1024) : k0_pay4 (F := Ideal) (up (F := Ideal) (k0_pay36 (F := Ideal) xs)) (ix2 i n) = xs (ix3 0 i n) := by
  pointwise [k0_pay4, k0_pay36]
theorem zero_at (i : Fin 512) (n : Fin 1024) : down (F := Ideal) (k0_pay37 (F := Ideal)) (ix2 i n) = (0 : EReal) := by
  pointwise [k0_pay37]

variable (m : (ℓ : Loc nD τ sig) → Buf (Elt Ideal) ℓ) (ρ : Dev nD → PrngReg)

/-- The share of device `d` of the result of device `o`. -/
def shr (o d : Dev nD) (i : Fin 512) (n : Fin 1024) : EReal :=
  Attn.share (N := 1024) (by decide) (fun i k => xstg m ρ o (ix3 0 i k)) (fun k n => wq m ρ d (ix2 k n)) (fun k n => wk m ρ d (ix2 k n))
    (fun k n => wv m ρ d (ix2 k n)) (fun k n => wo m ρ d (ix2 k n)) i n

theorem AA_at (o : Dev nD) (i : Fin 512) (n : Fin 1024) : ∀ h : ℕ, AA m ρ o h (ix2 i n) = ∑ t ∈ Finset.range h, shr m ρ o (dv o t) i n
  | 0 => zero_at i n
  | h + 1 => by
    rw [Finset.sum_range_succ, ← AA_at o i n h]
    refine (step_at _ _ _ i n).trans (congrArg (AA m ρ o h (ix2 i n) + ·) ?_)
    rw [share_at]
    exact congrArg (fun X : Fin 512 → Fin 1024 → EReal => Attn.share (N := 1024) (by decide) X (fun k n => wq m ρ (dv o h) (ix2 k n)) (fun k n => wk m ρ (dv o h) (ix2 k n))
      (fun k n => wv m ρ (dv o h) (ix2 k n)) (fun k n => wo m ρ (dv o h) (ix2 k n)) i n) (funext fun i => funext fun k => act'_at (xstg m ρ o) i k)

theorem dv_bij : ∀ o : Dev nD, Function.Bijective (fun t : Fin 16 => dv o t.val) := by decide +kernel
theorem dv_last : ∀ o : Dev nD, dv o 15 = o := by decide

/-- What device `o` ends with, at an index: the sum of all the devices' shares. -/
theorem outAt_at (o : Dev nD) (i : Fin 512) (n : Fin 1024) : outAt m ρ o (ix3 0 i n) = ∑ d : Dev nD, shr m ρ o d i n := by
  have h1 : outAt m ρ o (ix3 0 i n) = AA m ρ o 15 (ix2 i n) + shr m ρ o o i n := by
    refine (out_at _ _ _ i n).trans (congrArg (AA m ρ o 15 (ix2 i n) + ·) ?_)
    rw [share_at]
    simp only [act_at]
    rfl
  have h2 : ∑ t ∈ Finset.range 16, shr m ρ o (dv o t) i n = ∑ d : Dev nD, shr m ρ o d i n := by
    rw [← Fin.sum_univ_eq_sum_range (fun t => shr m ρ o (dv o t) i n) 16]
    exact (dv_bij o).sum_comp (fun d => shr m ρ o d i n)
  rw [h1, AA_at, ← h2, Finset.sum_range_succ _ 15, dv_last]

end Cert.KernelIdeal.Mesh
-- ==== Proof.RefVal.lean ====
/- The reference's result at an index. -/
module

public import proofs.«01_k».proof.Proof.Gen.ReferenceIdeal.Run
public import proofs.«01_k».proof.Proof.HeadV

@[expose] public section

set_option maxRecDepth 65536

noncomputable section

namespace Cert.ReferenceIdeal.Value

open Cert.ReferenceIdeal Cert.ReferenceIdeal.Gen
open Idealize.ShloMosaic
open Idealize.ShloMosaic.TcCoe

section Any
variable {F : FTy → Type} [FloatOps F]

def qkv (x : FVec F S16x512x1024 .f32) (w : FVec F S1024x16384 .f32) : FVec F S16x512x128x128 .f32 :=
  shapeCast S16x512x128x128 (Host.dotGeneral dot_S16x512x1024_S1024x16384_S16x512x16384_2_0_01_1_n_n none x w) shapeCasts_S16x512x16384_S16x512x128x128
def scores (q k : FVec F S16x512x128x128 .f32) : FVec F S16x128x512x512 .f32 :=
  mulf (Host.dotGeneral dot_S16x512x128x128_S16x512x128x128_S16x128x512x512_3_3_1_1_02_02 none q k) (broadcastInDim S16x128x512x512 ![] bcast_S_S16x128x512x512 (constant S_ .f32 0x3DB504F3#32))
def weights (s : FVec F S16x128x512x512 .f32) : FVec F S16x128x512x512 .f32 :=
  Host.exp (subf s (broadcastInDim S16x128x512x512 ![0, 1, 2, 3] bcast_S16x128x512x1_S16x128x512x512_0_1_2_3 (broadcastInDim S16x128x512x1 ![0, 1, 2] bcast_S16x128x512_S16x128x512x1_0_1_2 (Host.reduce FloatOps.maximumf s (constant S_ .f32 0xFF800000#32) reducesTo_S16x128x512x512_S16x128x512_d3 h_S_))))
def means (p : FVec F S16x128x512x512 .f32) (v : FVec F S16x512x128x128 .f32) : FVec F S16x512x128x128 .f32 :=
  Host.divf (transpose S16x512x128x128 [0, 3, 1, 2] (Host.dotGeneral dot_S16x512x128x128_S16x128x512x512_S16x128x128x512_1_3_3_2_02_01 none v p) transposes_S16x128x128x512_S16x512x128x128_0_3_1_2)
    (broadcastInDim S16x512x128x128 ![0, 1, 2, 3] bcast_S16x512x128x1_S16x512x128x128_0_1_2_3 (transpose S16x512x128x1 [0, 2, 1, 3] (broadcastInDim S16x128x512x1 ![0, 1, 2] bcast_S16x128x512_S16x128x512x1_0_1_2 (Host.reduceAdd p (constant S_ .f32 0x00000000#32) reducesTo_S16x128x512x512_S16x128x512_d3 h_S_)) transposes_S16x128x512x1_S16x512x128x1_0_2_1_3))
def outs (o : FVec F S16x512x128x128 .f32) (w : FVec F S16384x1024 .f32) : FVec F S16x512x1024 .f32 :=
  Host.dotGeneral dot_S16x512x16384_S16384x1024_S16x512x1024_2_0_01_1_n_n none (shapeCast S16x512x16384 o shapeCasts_S16x512x128x128_S16x512x16384) w

/-- The reference's result, of its arguments. -/
def refV (x : FVec F S16x512x1024 .f32) (wq wk wv : FVec F S1024x16384 .f32) (wo : FVec F S16384x1024 .f32) : FVec F S16x512x1024 .f32 :=
  outs (means (weights (scores (qkv x wq) (qkv x wk))) (qkv x wv)) wo

theorem res_eq (m : (ℓ : Loc nD τ sig) → Buf (Elt F) ℓ) (c : Dev nD) :
    res_main_v22 m c = refV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Any

theorem qkv_at (x : FVec Ideal S16x512x1024 .f32) (w : FVec Ideal S1024x16384 .f32) (b : Fin 16) (i : Fin 512) (h d : Fin 128) :
    qkv x w (ix4 b i h d) = Attn.proj (fun i k => x (ix3 b i k)) (fun k n => w (ix2 k n)) i (⟨h.val * 128 + d.val, by omega⟩ : Fin 16384) := by
  pointwise [qkv]
  rfl
theorem means_at (q k v : FVec Ideal S16x512x128x128 .f32) (b : Fin 16) (i : Fin 512) (h d : Fin 128) :
    means (weights (scores q k)) v (ix4 b i h d)
      = Attn.head (fun i d => q (ix4 b i h d)) (fun i d => k (ix4 b i h d)) (fun i d => v (ix4 b i h d)) i d := by
  pointwise [means, weights, scores]
  unfold Attn.head
  refine congrArg₂ Ideal.div (Finset.sum_congr rfl fun j _ => mul_comm _ _) rfl
theorem outs_at (o : FVec Ideal S16x512x128x128 .f32) (w : FVec Ideal S16384x1024 .f32) (b : Fin 16) (i : Fin 512) (n : Fin 1024) :
    outs o w (ix3 b i n) = ∑ k : Fin 16384, o (ix4 b i (⟨k.val / 128, by omega⟩ : Fin 128) (⟨k.val % 128, by omega⟩ : Fin 128)) * w (ix2 k n) := by
  pointwise [outs]

/-- The reference's result at an index: all the heads, of one batch's activations, through the output projection. -/
theorem ref_at (x : FVec Ideal S16x512x1024 .f32) (wq wk wv : FVec Ideal S1024x16384 .f32) (wo : FVec Ideal S16384x1024 .f32)
    (b : Fin 16) (i : Fin 512) (n : Fin 1024) :
    refV x wq wk wv wo (ix3 b i n) = Attn.share (N := 16384) (by decide) (fun i k => x (ix3 b i k)) (fun k n => wq (ix2 k n)) (fun k n => wk (ix2 k n))
      (fun k n => wv (ix2 k n)) (fun k n => wo (ix2 k n)) i n := by
  unfold refV
  rw [outs_at]
  refine Finset.sum_congr rfl fun k _ => ?_
  rw [means_at]
  simp only [qkv_at]
  rfl

end Cert.ReferenceIdeal.Value
-- ==== Proof.FinalI.lean ====
/- Every device's result array at the end, and its block of the reference's result. -/
module

public import proofs.«01_k».proof.Proof.LaunchI
public import proofs.«01_k».proof.Proof.HeadI
public import proofs.«01_k».proof.Proof.RefVal

@[expose] public section

set_option maxRecDepth 65536

noncomputable section

namespace Cert.KernelIdeal.Mesh

open Cert.KernelIdeal Cert.KernelIdeal.Gen
open Idealize.ShloMosaic
open Idealize.ShloMosaic.TcCoe

section Any
variable {F : FTy → Type} [FloatOps F]
variable (m : (ℓ : Loc nD τ sig) → Buf (Elt F) ℓ) (ρ : Dev nD → PrngReg)

/-- The result array read back is what the body left in its staging buffer. -/
theorem final_read (c : Dev nD) : (win0_5.blk (0 : Fin 1)).view.read (Elt F) (finalA m ρ c (5 : Fin 6)) = outAt m ρ c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

theorem final_out (c : Dev nD) : finalA m ρ c (5 : Fin 6) = outAt m ρ c := by
  have hz : (fun a => (win0_5.index (0 : Fin 1)) a * main_v1.ty.shape.size a) = fun _ => 0 := funext fun a => by fin_cases a <;> decide
  exact (Memref.read_access_unit_zero (Elt F) main_v1 hz (fun a => by fin_cases a <;> decide) _).symm.trans (final_read m ρ c)

theorem xstg_eq (c : Dev nD) : xstg m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem wq_eq (c : Dev nD) : wq m ρ c = m ((c.tc : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem wk_eq (c : Dev nD) : wk m ρ c = m ((c.tc : Thread nD τ).loc main_arg2) := by
  have hz : (fun a => (win0_3.index (0 : Fin 1)) a * main_arg2.ty.shape.size a) = fun _ => 0 := funext fun a => by fin_cases a <;> decide
  exact Memref.read_access_unit_zero (Elt F) main_arg2 hz (fun a => by fin_cases a <;> decide) _
theorem wv_eq (c : Dev nD) : wv m ρ c = m ((c.tc : Thread nD τ).loc main_arg3) := by
  have hz : (fun a => (win0_4.index (0 : Fin 1)) a * main_arg3.ty.shape.size a) = fun _ => 0 := funext fun a => by fin_cases a <;> decide
  exact Memref.read_access_unit_zero (Elt F) main_arg3 hz (fun a => by fin_cases a <;> decide) _
theorem wo_eq (c : Dev nD) : wo m ρ c = m ((c.tc : Thread nD τ).loc main_arg4) := by
  have hz : (fun a => (win0_2.index (0 : Fin 1)) a * main_arg4.ty.shape.size a) = fun _ => 0 := funext fun a => by fin_cases a <;> decide
  exact Memref.read_access_unit_zero (Elt F) main_arg4 hz (fun a => by fin_cases a <;> decide) _

end Any

/-! ## The blocks at an index -/

theorem block_act (c : Fin 16) (v : (⟨3, ![16, 512, 1024]⟩ : Shape).Idx → EReal) (i : Fin 512) (n : Fin 1024) :
    Layout.block ⟨3, ![1, 512, 1024]⟩ ⟨3, ![16, 512, 1024]⟩ 0 16 c v (by decide) (ix3 0 i n) = v (ix3 c i n) := by
  refine congrArg v (funext fun a => ?_)
  match a with
  | ⟨0, _⟩ => exact Fin.ext (by show c.val * 1 + 0 = c.val; omega)
  | ⟨1, _⟩ => rfl
  | ⟨2, _⟩ => rfl
theorem block_cols (c : Fin 16) (v : (⟨2, ![1024, 16384]⟩ : Shape).Idx → EReal) (k n : Fin 1024) :
    Layout.block ⟨2, ![1024, 1024]⟩ ⟨2, ![1024, 16384]⟩ 1 16 c v (by decide) (ix2 k n) = v (ix2 k (Attn.glob c n)) := by
  refine congrArg v (funext fun a => ?_)
  match a with
  | ⟨0, _⟩ => rfl
  | ⟨1, _⟩ => rfl
theorem block_rows (c : Fin 16) (v : (⟨2, ![16384, 1024]⟩ : Shape).Idx → EReal) (k n : Fin 1024) :
    Layout.block ⟨2, ![1024, 1024]⟩ ⟨2, ![16384, 1024]⟩ 0 16 c v (by decide) (ix2 k n) = v (ix2 (Attn.glob c k) n) := by
  refine congrArg v (funext fun a => ?_)
  match a with
  | ⟨0, _⟩ => rfl
  | ⟨1, _⟩ => rfl

/-- From blocks of the whole arguments, a device ends with its block of the reference's result. -/
theorem final_block (m : (ℓ : Loc nD τ sig) → Buf (Elt Ideal) ℓ) (ρ : Dev nD → PrngReg)
    (x : FVec Ideal Cert.ReferenceIdeal.S16x512x1024 .f32) (wq' wk' wv' : FVec Ideal Cert.ReferenceIdeal.S1024x16384 .f32) (wo' : FVec Ideal Cert.ReferenceIdeal.S16384x1024 .f32)
    (hx : ∀ c : Dev nD, m ((c.tc : Thread nD τ).loc main_arg0) = Layout.block ⟨3, ![1, 512, 1024]⟩ ⟨3, ![16, 512, 1024]⟩ 0 16 c x)
    (hq : ∀ c : Dev nD, m ((c.tc : Thread nD τ).loc main_arg1) = Layout.block ⟨2, ![1024, 1024]⟩ ⟨2, ![1024, 16384]⟩ 1 16 c wq')
    (hk : ∀ c : Dev nD, m ((c.tc : Thread nD τ).loc main_arg2) = Layout.block ⟨2, ![1024, 1024]⟩ ⟨2, ![1024, 16384]⟩ 1 16 c wk')
    (hv : ∀ c : Dev nD, m ((c.tc : Thread nD τ).loc main_arg3) = Layout.block ⟨2, ![1024, 1024]⟩ ⟨2, ![1024, 16384]⟩ 1 16 c wv')
    (ho : ∀ c : Dev nD, m ((c.tc : Thread nD τ).loc main_arg4) = Layout.block ⟨2, ![1024, 1024]⟩ ⟨2, ![16384, 1024]⟩ 0 16 c wo') (c : Dev nD) :
    finalA m ρ c (5 : Fin 6) = Layout.block ⟨3, ![1, 512, 1024]⟩ ⟨3, ![16, 512, 1024]⟩ 0 16 c (Cert.ReferenceIdeal.Value.refV x wq' wk' wv' wo') := by
  rw [final_out]
  funext j
  obtain ⟨j0, i, n, rfl⟩ : ∃ (j0 : Fin 1) (i : Fin 512) (n : Fin 1024), j = ix3 j0 i n := ⟨j 0, j 1, j 2, eq_ix3 j⟩
  obtain rfl : j0 = 0 := Subsingleton.elim _ _
  refine (outAt_at m ρ c i n).trans (Eq.symm ((block_act c _ i n).trans ((Cert.ReferenceIdeal.Value.ref_at x wq' wk' wv' wo' c i n).trans ?_)))
  have ex : (fun (i : Fin 512) (k : Fin 1024) => x (ix3 c i k)) = fun i k => xstg m ρ c (ix3 0 i k) := funext fun i => funext fun k => by
    rw [xstg_eq, hx]; exact (block_act c x i k).symm
  rw [ex]
  exact Attn.share_sum _ _ _ _ _ (fun c k n => wq m ρ c (ix2 k n)) (fun c k n => wk m ρ c (ix2 k n)) (fun c k n => wv m ρ c (ix2 k n))
    (fun c k n => wo m ρ c (ix2 k n))
    (fun c k n => by rw [wq_eq, hq]; exact (block_cols c wq' k n).symm) (fun c k n => by rw [wk_eq, hk]; exact (block_cols c wk' k n).symm)
    (fun c k n => by rw [wv_eq, hv]; exact (block_cols c wv' k n).symm) (fun c k n => by rw [wo_eq, ho]; exact (block_rows c wo' k n).symm) i n

end Cert.KernelIdeal.Mesh
-- ==== Proof.lean ====
/- The five claims: the frames of the three programs, that the ideal program is the kernel's own text, and that the sixteen
   devices compute their blocks of the reference's result over the extended reals. -/
module

public import proofs.«01_k».proof.Defs
public import proofs.«01_k».proof.Proof.LaunchI
public import proofs.«01_k».proof.Proof.LaunchK
public import proofs.«01_k».proof.Proof.FinalI
public import proofs.«01_k».proof.Proof.Gen.ReferenceIdeal
public import proofs.«01_k».proof.Proof.Gen.ReferenceIdeal.Run

@[expose] public section

noncomputable section

namespace Cert.Proof

open Cert Idealize.ShloMosaic Idealize.ShloMosaic.TcCoe Idealize.SL.Sem

/-- The kernel ends on every device with its arguments unchanged and its counters at zero. -/
theorem frame_kernel : Cert.quiescent_Kernel := by
  intro m ρ _
  exact (θ_run Cert.Kernel.defs _ _).mono (fun _ h => ⟨fun c => ⟨(h.1 c (0 : Fin 6)).trans (Cert.Kernel.Mesh.final_in m ρ c (0 : Fin 6) (by decide)),
      (h.1 c (1 : Fin 6)).trans (Cert.Kernel.Mesh.final_in m ρ c (1 : Fin 6) (by decide)), (h.1 c (3 : Fin 6)).trans (Cert.Kernel.Mesh.final_in m ρ c (3 : Fin 6) (by decide)),
      (h.1 c (4 : Fin 6)).trans (Cert.Kernel.Mesh.final_in m ρ c (4 : Fin 6) (by decide)), (h.1 c (2 : Fin 6)).trans (Cert.Kernel.Mesh.final_in m ρ c (2 : Fin 6) (by decide))⟩, h.2⟩)
    (Cert.Kernel.Mesh.run_mesh (F := Bits) m ρ)

/-- So does the ideal program. -/
theorem frame_kernelIdeal : Cert.quiescent_KernelIdeal := by
  intro m ρ _
  exact (θ_run Cert.KernelIdeal.defs _ _).mono (fun _ h => ⟨fun c => ⟨(h.1 c (0 : Fin 6)).trans (Cert.KernelIdeal.Mesh.final_in m ρ c (0 : Fin 6) (by decide)),
      (h.1 c (1 : Fin 6)).trans (Cert.KernelIdeal.Mesh.final_in m ρ c (1 : Fin 6) (by decide)), (h.1 c (3 : Fin 6)).trans (Cert.KernelIdeal.Mesh.final_in m ρ c (3 : Fin 6) (by decide)),
      (h.1 c (4 : Fin 6)).trans (Cert.KernelIdeal.Mesh.final_in m ρ c (4 : Fin 6) (by decide)), (h.1 c (2 : Fin 6)).trans (Cert.KernelIdeal.Mesh.final_in m ρ c (2 : Fin 6) (by decide))⟩, h.2⟩)
    (Cert.KernelIdeal.Mesh.run_mesh (F := Ideal) m ρ)

/-- The reference ends with its arguments unchanged; it has no counters. -/
theorem frame_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- From blocks of the reference's arguments the sixteen devices end with the blocks of the reference's result. -/
theorem value : Cert.algebraic_KernelIdeal_ReferenceIdeal := by
  intro m ρ m' ρ' _ hagree
  refine ⟨Cert.ReferenceIdeal.Value.res_main_v22 m' 0, ?_, ?_⟩
  · refine (θ_run Cert.KernelIdeal.defs _ _).mono (fun _ h c => ⟨(h.1 c (5 : Fin 6)).trans ?_, (h.1 c (0 : Fin 6)).trans (Cert.KernelIdeal.Mesh.final_in m ρ c (0 : Fin 6) (by decide)),
      (h.1 c (1 : Fin 6)).trans (Cert.KernelIdeal.Mesh.final_in m ρ c (1 : Fin 6) (by decide)), (h.1 c (3 : Fin 6)).trans (Cert.KernelIdeal.Mesh.final_in m ρ c (3 : Fin 6) (by decide)),
      (h.1 c (4 : Fin 6)).trans (Cert.KernelIdeal.Mesh.final_in m ρ c (4 : Fin 6) (by decide)), (h.1 c (2 : Fin 6)).trans (Cert.KernelIdeal.Mesh.final_in m ρ c (2 : Fin 6) (by decide))⟩)
      (Cert.KernelIdeal.Mesh.run_mesh (F := Ideal) m ρ)
    rw [Cert.ReferenceIdeal.Value.res_eq]
    exact Cert.KernelIdeal.Mesh.final_block m ρ _ _ _ _ _ (fun c => (hagree c).1) (fun c => (hagree c).2.1) (fun c => (hagree c).2.2.1) (fun c => (hagree c).2.2.2.1)
      (fun c => (hagree c).2.2.2.2) c
  · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts, frame_kernel, frame_kernelIdeal, frame_referenceIdeal, trivial, value⟩

end Cert.Proof

end
